-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S1024x1024 : Shape := ⟨2, ![1024, 1024]⟩
abbrev S1x2048x256x128 : Shape := ⟨4, ![1, 2048, 256, 128]⟩
abbrev S2048x8x128 : Shape := ⟨3, ![2048, 8, 128]⟩
abbrev S512x1024 : Shape := ⟨2, ![512, 1024]⟩
abbrev S496x1024 : Shape := ⟨2, ![496, 1024]⟩
abbrev S2 : Shape := ⟨1, ![2]⟩
abbrev S10 : Shape := ⟨1, ![10]⟩
abbrev S_ : Shape := ⟨0, ![]⟩
abbrev S1 : Shape := ⟨1, ![1]⟩
abbrev S1x2048x8x128 : Shape := ⟨4, ![1, 2048, 8, 128]⟩
abbrev S512x128 : Shape := ⟨2, ![512, 128]⟩
abbrev S2048x1x128 : Shape := ⟨3, ![2048, 1, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x512x1024, .f32⟩
  | .hbm, ⟨1, _⟩ => ⟨S1024x1024, .f32⟩
  | .hbm, ⟨2, _⟩ => ⟨S1x2048x256x128, .f32⟩
  | .hbm, ⟨3, _⟩ => ⟨S1x2048x256x128, .f32⟩
  | .hbm, ⟨4, _⟩ => ⟨S1024x1024, .f32⟩
  | .hbm, ⟨5, _⟩ => ⟨S1x512x1024, .f32⟩
  | .local _ .vmem, ⟨0, _⟩ => ⟨S1x512x1024, .f32⟩
  | .local _ .vmem, ⟨1, _⟩ => ⟨S1024x1024, .f32⟩
  | .local _ .vmem, ⟨2, _⟩ => ⟨S1024x1024, .f32⟩
  | .local _ .vmem, ⟨3, _⟩ => ⟨S1x512x1024, .f32⟩
  | .local _ .vmem, ⟨4, _⟩ => ⟨S2048x8x128, .f32⟩
  | .local _ .vmem, ⟨5, _⟩ => ⟨S2048x8x128, .f32⟩
  | .local _ .vmem, ⟨6, _⟩ => ⟨S512x1024, .bf16⟩
  | .local _ .vmem, ⟨7, _⟩ => ⟨S512x1024, .bf16⟩
  | .local _ .vmem, ⟨8, _⟩ => ⟨S496x1024, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v5 : BitVec 32 := Scalar.xori v2 c1_i32_0
  let c1_i32_2 : BitVec 32 := 1#32
  let v6 : BitVec 32 := Scalar.muli v5 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.xori v2 c2_i32
  let c1_i32_4 : BitVec 32 := 1#32
  let v9 : BitVec 32 := Scalar.muli v8 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v11 : BitVec 32 := Scalar.xori v2 c4_i32
  let c1_i32_7 : BitVec 32 := 1#32
  let v12 : BitVec 32 := Scalar.muli v11 c1_i32_7
  let v13 : BitVec 32 := Scalar.addi c0_i32_8 v12
  v13.toNat
def k0_dev4 (d0 : Dev nD) : Nat :=
  let c0_i32_12 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_9 : BitVec 32 := 8#32
  let v14 : BitVec 32 := Scalar.xori v2 c8_i32_9
  let c1_i32_11 : BitVec 32 := 1#32
  let v15 : BitVec 32 := Scalar.muli v14 c1_i32_11
  let v16 : BitVec 32 := Scalar.addi c0_i32_12 v15
  v16.toNat
def k0_dev5 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v17 : BitVec 32 := Scalar.xori v2 c16_i32
  let c1_i32_14 : BitVec 32 := 1#32
  let v18 : BitVec 32 := Scalar.muli v17 c1_i32_14
  let v19 : BitVec 32 := Scalar.addi c0_i32_15 v18
  v19.toNat
def k0_off1 (d0 : Dev nD) : Fin 4 → Nat :=
  let c0_i32_16 : BitVec 32 := 0#32
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.muli v2 c8_i32
  let c0_i32_19 : BitVec 32 := 0#32
  ![0, 0, v3.toNat, 0]
def k0_off2 (d0 : Dev nD) : Fin 2 → Nat :=
  let c0_i32_137 : BitVec 32 := 0#32
  let c1_i32_136 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let v263 : BitVec 32 := Scalar.subi c1_i32_136 v261
  let c256_i32 : BitVec 32 := 256#32
  let v264 : BitVec 32 := Scalar.muli v263 c256_i32
  let v265 : BitVec 32 := Scalar.addi c0_i32_137 v264
  let c0_i32_146 : BitVec 32 := 0#32
  ![v265.toNat, 0]
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_135 : BitVec 32 := 1#32
  let v262 : BitVec 32 := Scalar.xori v2 c1_i32_135
  let c1_i32_142 : BitVec 32 := 1#32
  let v268 : BitVec 32 := Scalar.muli v262 c1_i32_142
  let v269 : BitVec 32 := Scalar.addi c0_i32_143 v268
  v269.toNat
def k0_off3 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let v286 : Index := Scalar.indexCast v267
  let c0_160 : Index := 0#32
  ![v286.toNat, 0]
def k0_off4 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_167 : BitVec 32 := 1#32
  let c1_i32_164 : BitVec 32 := 1#32
  let v294 : BitVec 32 := Scalar.shrsi v2 c1_i32_164
  let c1_i32_165 : BitVec 32 := 1#32
  let v295 : BitVec 32 := Scalar.andi v294 c1_i32_165
  let v297 : BitVec 32 := Scalar.subi c1_i32_167 v295
  let c128_i32 : BitVec 32 := 128#32
  let v298 : BitVec 32 := Scalar.muli v297 c128_i32
  let v299 : BitVec 32 := Scalar.addi v267 v298
  let c0_i32_175 : BitVec 32 := 0#32
  ![v299.toNat, 0]
def k0_dev7 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v296 : BitVec 32 := Scalar.xori v2 c2_i32_166
  let c1_i32_171 : BitVec 32 := 1#32
  let v302 : BitVec 32 := Scalar.muli v296 c1_i32_171
  let v303 : BitVec 32 := Scalar.addi c0_i32_172 v302
  v303.toNat
def k0_off5 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let v320 : Index := Scalar.indexCast v301
  let c0_189 : Index := 0#32
  ![v320.toNat, 0]
def k0_off6 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c1_i32_196 : BitVec 32 := 1#32
  let c2_i32_193 : BitVec 32 := 2#32
  let v328 : BitVec 32 := Scalar.shrsi v2 c2_i32_193
  let c1_i32_194 : BitVec 32 := 1#32
  let v329 : BitVec 32 := Scalar.andi v328 c1_i32_194
  let v331 : BitVec 32 := Scalar.subi c1_i32_196 v329
  let c64_i32 : BitVec 32 := 64#32
  let v332 : BitVec 32 := Scalar.muli v331 c64_i32
  let v333 : BitVec 32 := Scalar.addi v301 v332
  let c0_i32_203 : BitVec 32 := 0#32
  ![v333.toNat, 0]
def k0_dev8 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_195 : BitVec 32 := 4#32
  let v330 : BitVec 32 := Scalar.xori v2 c4_i32_195
  let c1_i32_200 : BitVec 32 := 1#32
  let v336 : BitVec 32 := Scalar.muli v330 c1_i32_200
  let v337 : BitVec 32 := Scalar.addi c0_i32_201 v336
  v337.toNat
def k0_off7 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let v354 : Index := Scalar.indexCast v335
  let c0_217 : Index := 0#32
  ![v354.toNat, 0]
def k0_off8 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c1_i32_223 : BitVec 32 := 1#32
  let c3_i32 : BitVec 32 := 3#32
  let v362 : BitVec 32 := Scalar.shrsi v2 c3_i32
  let c1_i32_221 : BitVec 32 := 1#32
  let v363 : BitVec 32 := Scalar.andi v362 c1_i32_221
  let v365 : BitVec 32 := Scalar.subi c1_i32_223 v363
  let c32_i32_224 : BitVec 32 := 32#32
  let v366 : BitVec 32 := Scalar.muli v365 c32_i32_224
  let v367 : BitVec 32 := Scalar.addi v335 v366
  let c0_i32_231 : BitVec 32 := 0#32
  ![v367.toNat, 0]
def k0_dev9 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v364 : BitVec 32 := Scalar.xori v2 c8_i32_222
  let c1_i32_228 : BitVec 32 := 1#32
  let v370 : BitVec 32 := Scalar.muli v364 c1_i32_228
  let v371 : BitVec 32 := Scalar.addi c0_i32_229 v370
  v371.toNat
def k0_off9 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let v388 : Index := Scalar.indexCast v369
  let c0_245 : Index := 0#32
  ![v388.toNat, 0]
def k0_off10 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c1_i32_251 : BitVec 32 := 1#32
  let c4_i32_248 : BitVec 32 := 4#32
  let v396 : BitVec 32 := Scalar.shrsi v2 c4_i32_248
  let c1_i32_249 : BitVec 32 := 1#32
  let v397 : BitVec 32 := Scalar.andi v396 c1_i32_249
  let v399 : BitVec 32 := Scalar.subi c1_i32_251 v397
  let c16_i32_252 : BitVec 32 := 16#32
  let v400 : BitVec 32 := Scalar.muli v399 c16_i32_252
  let v401 : BitVec 32 := Scalar.addi v369 v400
  let c0_i32_259 : BitVec 32 := 0#32
  ![v401.toNat, 0]
def k0_dev10 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_250 : BitVec 32 := 16#32
  let v398 : BitVec 32 := Scalar.xori v2 c16_i32_250
  let c1_i32_256 : BitVec 32 := 1#32
  let v404 : BitVec 32 := Scalar.muli v398 c1_i32_256
  let v405 : BitVec 32 := Scalar.addi c0_i32_257 v404
  v405.toNat
def k0_off11 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c4_i32_248 : BitVec 32 := 4#32
  let v396 : BitVec 32 := Scalar.shrsi v2 c4_i32_248
  let c1_i32_249 : BitVec 32 := 1#32
  let v397 : BitVec 32 := Scalar.andi v396 c1_i32_249
  let c16_i32_253 : BitVec 32 := 16#32
  let v402 : BitVec 32 := Scalar.muli v397 c16_i32_253
  let v403 : BitVec 32 := Scalar.addi v369 v402
  let v422 : Index := Scalar.indexCast v403
  let c0_273 : Index := 0#32
  ![v422.toNat, 0]
def k0_off12 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c4_i32_248 : BitVec 32 := 4#32
  let v396 : BitVec 32 := Scalar.shrsi v2 c4_i32_248
  let c1_i32_249 : BitVec 32 := 1#32
  let v397 : BitVec 32 := Scalar.andi v396 c1_i32_249
  let c16_i32_253 : BitVec 32 := 16#32
  let v402 : BitVec 32 := Scalar.muli v397 c16_i32_253
  let v403 : BitVec 32 := Scalar.addi v369 v402
  let c0_i32_283 : BitVec 32 := 0#32
  ![v403.toNat, 0]
def k0_dev11 (d0 : Dev nD) : Nat :=
  let c0_i32_282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_278 : BitVec 32 := 16#32
  let v432 : BitVec 32 := Scalar.xori v2 c16_i32_278
  let c1_i32_281 : BitVec 32 := 1#32
  let v433 : BitVec 32 := Scalar.muli v432 c1_i32_281
  let v434 : BitVec 32 := Scalar.addi c0_i32_282 v433
  v434.toNat
def k0_off13 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c4_i32_248 : BitVec 32 := 4#32
  let v396 : BitVec 32 := Scalar.shrsi v2 c4_i32_248
  let c1_i32_249 : BitVec 32 := 1#32
  let v397 : BitVec 32 := Scalar.andi v396 c1_i32_249
  let c16_i32_253 : BitVec 32 := 16#32
  let v402 : BitVec 32 := Scalar.muli v397 c16_i32_253
  let v403 : BitVec 32 := Scalar.addi v369 v402
  let c4_i32_276 : BitVec 32 := 4#32
  let v430 : BitVec 32 := Scalar.shrsi v2 c4_i32_276
  let c1_i32_277 : BitVec 32 := 1#32
  let v431 : BitVec 32 := Scalar.andi v430 c1_i32_277
  let c16_i32_296 : BitVec 32 := 16#32
  let v451 : BitVec 32 := Scalar.muli v431 c16_i32_296
  let v452 : BitVec 32 := Scalar.subi v403 v451
  let c0_i32_303 : BitVec 32 := 0#32
  ![v452.toNat, 0]
def k0_dev12 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_299 : BitVec 32 := 8#32
  let v455 : BitVec 32 := Scalar.xori v2 c8_i32_299
  let c1_i32_301 : BitVec 32 := 1#32
  let v456 : BitVec 32 := Scalar.muli v455 c1_i32_301
  let v457 : BitVec 32 := Scalar.addi c0_i32_302 v456
  v457.toNat
def k0_off14 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c4_i32_248 : BitVec 32 := 4#32
  let v396 : BitVec 32 := Scalar.shrsi v2 c4_i32_248
  let c1_i32_249 : BitVec 32 := 1#32
  let v397 : BitVec 32 := Scalar.andi v396 c1_i32_249
  let c16_i32_253 : BitVec 32 := 16#32
  let v402 : BitVec 32 := Scalar.muli v397 c16_i32_253
  let v403 : BitVec 32 := Scalar.addi v369 v402
  let c4_i32_276 : BitVec 32 := 4#32
  let v430 : BitVec 32 := Scalar.shrsi v2 c4_i32_276
  let c1_i32_277 : BitVec 32 := 1#32
  let v431 : BitVec 32 := Scalar.andi v430 c1_i32_277
  let c16_i32_296 : BitVec 32 := 16#32
  let v451 : BitVec 32 := Scalar.muli v431 c16_i32_296
  let v452 : BitVec 32 := Scalar.subi v403 v451
  let c3_i32_297 : BitVec 32 := 3#32
  let v453 : BitVec 32 := Scalar.shrsi v2 c3_i32_297
  let c1_i32_298 : BitVec 32 := 1#32
  let v454 : BitVec 32 := Scalar.andi v453 c1_i32_298
  let c32_i32_316 : BitVec 32 := 32#32
  let v474 : BitVec 32 := Scalar.muli v454 c32_i32_316
  let v475 : BitVec 32 := Scalar.subi v452 v474
  let c0_i32_323 : BitVec 32 := 0#32
  ![v475.toNat, 0]
def k0_dev13 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_319 : BitVec 32 := 4#32
  let v478 : BitVec 32 := Scalar.xori v2 c4_i32_319
  let c1_i32_321 : BitVec 32 := 1#32
  let v479 : BitVec 32 := Scalar.muli v478 c1_i32_321
  let v480 : BitVec 32 := Scalar.addi c0_i32_322 v479
  v480.toNat
def k0_off15 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c4_i32_248 : BitVec 32 := 4#32
  let v396 : BitVec 32 := Scalar.shrsi v2 c4_i32_248
  let c1_i32_249 : BitVec 32 := 1#32
  let v397 : BitVec 32 := Scalar.andi v396 c1_i32_249
  let c16_i32_253 : BitVec 32 := 16#32
  let v402 : BitVec 32 := Scalar.muli v397 c16_i32_253
  let v403 : BitVec 32 := Scalar.addi v369 v402
  let c4_i32_276 : BitVec 32 := 4#32
  let v430 : BitVec 32 := Scalar.shrsi v2 c4_i32_276
  let c1_i32_277 : BitVec 32 := 1#32
  let v431 : BitVec 32 := Scalar.andi v430 c1_i32_277
  let c16_i32_296 : BitVec 32 := 16#32
  let v451 : BitVec 32 := Scalar.muli v431 c16_i32_296
  let v452 : BitVec 32 := Scalar.subi v403 v451
  let c3_i32_297 : BitVec 32 := 3#32
  let v453 : BitVec 32 := Scalar.shrsi v2 c3_i32_297
  let c1_i32_298 : BitVec 32 := 1#32
  let v454 : BitVec 32 := Scalar.andi v453 c1_i32_298
  let c32_i32_316 : BitVec 32 := 32#32
  let v474 : BitVec 32 := Scalar.muli v454 c32_i32_316
  let v475 : BitVec 32 := Scalar.subi v452 v474
  let c2_i32_317 : BitVec 32 := 2#32
  let v476 : BitVec 32 := Scalar.shrsi v2 c2_i32_317
  let c1_i32_318 : BitVec 32 := 1#32
  let v477 : BitVec 32 := Scalar.andi v476 c1_i32_318
  let c64_i32_336 : BitVec 32 := 64#32
  let v497 : BitVec 32 := Scalar.muli v477 c64_i32_336
  let v498 : BitVec 32 := Scalar.subi v475 v497
  let c0_i32_344 : BitVec 32 := 0#32
  ![v498.toNat, 0]
def k0_dev14 (d0 : Dev nD) : Nat :=
  let c0_i32_343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_339 : BitVec 32 := 2#32
  let v501 : BitVec 32 := Scalar.xori v2 c2_i32_339
  let c1_i32_342 : BitVec 32 := 1#32
  let v502 : BitVec 32 := Scalar.muli v501 c1_i32_342
  let v503 : BitVec 32 := Scalar.addi c0_i32_343 v502
  v503.toNat
def k0_off16 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let v260 : BitVec 32 := Scalar.shrsi v2 c0_i32_133
  let c1_i32_134 : BitVec 32 := 1#32
  let v261 : BitVec 32 := Scalar.andi v260 c1_i32_134
  let c256_i32_138 : BitVec 32 := 256#32
  let v266 : BitVec 32 := Scalar.muli v261 c256_i32_138
  let v267 : BitVec 32 := Scalar.addi c0_i32_139 v266
  let c1_i32_164 : BitVec 32 := 1#32
  let v294 : BitVec 32 := Scalar.shrsi v2 c1_i32_164
  let c1_i32_165 : BitVec 32 := 1#32
  let v295 : BitVec 32 := Scalar.andi v294 c1_i32_165
  let c128_i32_168 : BitVec 32 := 128#32
  let v300 : BitVec 32 := Scalar.muli v295 c128_i32_168
  let v301 : BitVec 32 := Scalar.addi v267 v300
  let c2_i32_193 : BitVec 32 := 2#32
  let v328 : BitVec 32 := Scalar.shrsi v2 c2_i32_193
  let c1_i32_194 : BitVec 32 := 1#32
  let v329 : BitVec 32 := Scalar.andi v328 c1_i32_194
  let c64_i32_197 : BitVec 32 := 64#32
  let v334 : BitVec 32 := Scalar.muli v329 c64_i32_197
  let v335 : BitVec 32 := Scalar.addi v301 v334
  let c3_i32 : BitVec 32 := 3#32
  let v362 : BitVec 32 := Scalar.shrsi v2 c3_i32
  let c1_i32_221 : BitVec 32 := 1#32
  let v363 : BitVec 32 := Scalar.andi v362 c1_i32_221
  let c32_i32_225 : BitVec 32 := 32#32
  let v368 : BitVec 32 := Scalar.muli v363 c32_i32_225
  let v369 : BitVec 32 := Scalar.addi v335 v368
  let c4_i32_248 : BitVec 32 := 4#32
  let v396 : BitVec 32 := Scalar.shrsi v2 c4_i32_248
  let c1_i32_249 : BitVec 32 := 1#32
  let v397 : BitVec 32 := Scalar.andi v396 c1_i32_249
  let c16_i32_253 : BitVec 32 := 16#32
  let v402 : BitVec 32 := Scalar.muli v397 c16_i32_253
  let v403 : BitVec 32 := Scalar.addi v369 v402
  let c4_i32_276 : BitVec 32 := 4#32
  let v430 : BitVec 32 := Scalar.shrsi v2 c4_i32_276
  let c1_i32_277 : BitVec 32 := 1#32
  let v431 : BitVec 32 := Scalar.andi v430 c1_i32_277
  let c16_i32_296 : BitVec 32 := 16#32
  let v451 : BitVec 32 := Scalar.muli v431 c16_i32_296
  let v452 : BitVec 32 := Scalar.subi v403 v451
  let c3_i32_297 : BitVec 32 := 3#32
  let v453 : BitVec 32 := Scalar.shrsi v2 c3_i32_297
  let c1_i32_298 : BitVec 32 := 1#32
  let v454 : BitVec 32 := Scalar.andi v453 c1_i32_298
  let c32_i32_316 : BitVec 32 := 32#32
  let v474 : BitVec 32 := Scalar.muli v454 c32_i32_316
  let v475 : BitVec 32 := Scalar.subi v452 v474
  let c2_i32_317 : BitVec 32 := 2#32
  let v476 : BitVec 32 := Scalar.shrsi v2 c2_i32_317
  let c1_i32_318 : BitVec 32 := 1#32
  let v477 : BitVec 32 := Scalar.andi v476 c1_i32_318
  let c64_i32_336 : BitVec 32 := 64#32
  let v497 : BitVec 32 := Scalar.muli v477 c64_i32_336
  let v498 : BitVec 32 := Scalar.subi v475 v497
  let c1_i32_337 : BitVec 32 := 1#32
  let v499 : BitVec 32 := Scalar.shrsi v2 c1_i32_337
  let c1_i32_338 : BitVec 32 := 1#32
  let v500 : BitVec 32 := Scalar.andi v499 c1_i32_338
  let c128_i32_357 : BitVec 32 := 128#32
  let v520 : BitVec 32 := Scalar.muli v500 c128_i32_357
  let v521 : BitVec 32 := Scalar.subi v498 v520
  let c0_i32_362 : BitVec 32 := 0#32
  ![v521.toNat, 0]
def k0_dev15 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_358 : BitVec 32 := 1#32
  let v522 : BitVec 32 := Scalar.xori v2 c1_i32_358
  let c1_i32_360 : BitVec 32 := 1#32
  let v523 : BitVec 32 := Scalar.muli v522 c1_i32_360
  let v524 : BitVec 32 := Scalar.addi c0_i32_361 v523
  v524.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x512x1024 : Shape := ⟨3, ![1, 512, 1024]⟩
abbrev S1024x32768 : Shape := ⟨2, ![1024, 32768]⟩
abbrev S1x2048x256x128 : Shape := ⟨4, ![1, 2048, 256, 128]⟩
abbrev S32768x1024 : Shape := ⟨2, ![32768, 1024]⟩
abbrev S1x512x32768 : Shape := ⟨3, ![1, 512, 32768]⟩
abbrev S1x512x256x128 : Shape := ⟨4, ![1, 512, 256, 128]⟩
abbrev S_ : Shape := ⟨0, ![]⟩
abbrev S1x256x512x1 : Shape := ⟨4, ![1, 256, 512, 1]⟩
abbrev S1x1024x256x128 : Shape := ⟨4, ![1, 1024, 256, 128]⟩
abbrev S1x256x512x1024 : Shape := ⟨4, ![1, 256, 512, 1024]⟩
abbrev S1x256x512 : Shape := ⟨3, ![1, 256, 512]⟩
abbrev S1x512x256x1 : Shape := ⟨4, ![1, 512, 256, 1]⟩
abbrev S1x256x128x512 : Shape := ⟨4, ![1, 256, 128, 512]⟩

abbrev nBuf : Space → Nat
  | .hbm => 70
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1024x32768, .f32⟩
  | .hbm, ⟨2, _⟩ => ⟨S1x2048x256x128, .f32⟩
  | .hbm, ⟨3, _⟩ => ⟨S1x2048x256x128, .f32⟩
  | .hbm, ⟨4, _⟩ => ⟨S32768x1024, .f32⟩
  | .hbm, ⟨5, _⟩ => ⟨S1x512x32768, .f32⟩
  | .hbm, ⟨6, _⟩ => ⟨S1x512x256x128, .f32⟩
  | .hbm, ⟨7, _⟩ => ⟨S_, .f32⟩
  | .hbm, ⟨8, _⟩ => ⟨S1x512x256x128, .f32⟩
  | .hbm, ⟨9, _⟩ => ⟨S_, .f32⟩
  | .hbm, ⟨10, _⟩ => ⟨S1x256x512x1, .f32⟩
  | .hbm, ⟨11, _⟩ => ⟨S_, .f32⟩
  | .hbm, ⟨12, _⟩ => ⟨S1x256x512x1, .f32⟩
  | .hbm, ⟨13, _⟩ => ⟨S1x1024x256x128, .f32⟩
  | .hbm, ⟨14, _⟩ => ⟨S1x1024x256x128, .f32⟩
  | .hbm, ⟨15, _⟩ => ⟨S1x256x512x1024, .f32⟩
  | .hbm, ⟨16, _⟩ => ⟨S_, .f32⟩
  | .hbm, ⟨17, _⟩ => ⟨S1x256x512x1024, .f32⟩
  | .hbm, ⟨18, _⟩ => ⟨S1x256x512x1024, .f32⟩
  | .hbm, ⟨19, _⟩ => ⟨S_, .f32⟩
  | .hbm, ⟨20, _⟩ => ⟨S1x256x512, .f32⟩
  | .hbm, ⟨21, _⟩ => ⟨S1x256x512x1, .f32⟩
  | .hbm, ⟨22, _⟩ => ⟨S1x256x512x1, .f32⟩
  | .hbm, ⟨23, _⟩ => ⟨S1x256x512x1, .f32⟩
  | .hbm, ⟨24, _⟩ => ⟨S1x256x512x1, .f32⟩
  | .hbm, ⟨25, _⟩ => ⟨S1x256x512x1024, .f32⟩
  | .hbm, ⟨26, _⟩ => ⟨S1x256x512x1024, .f32⟩
  | .hbm, ⟨27, _⟩ => ⟨S1x256x512x1024, .f32⟩
  | .hbm, ⟨28, _⟩ => ⟨S1x256x512x1, .f32⟩
  | .hbm, ⟨29, _⟩ => ⟨S_, .f32⟩
  | .hbm, ⟨30, _⟩ => ⟨S1x256x512, .f32⟩
  | .hbm, ⟨31, _⟩ => ⟨S1x256x512x1, .f32⟩
  | .hbm, ⟨32, _⟩ => ⟨S1x256x512x1, .f32⟩
  | .hbm, ⟨33, _⟩ => ⟨S1x512x256x1, .f32⟩
  | .hbm, ⟨34, _⟩ => ⟨S1x512x256x128, .f32⟩
  | .hbm, ⟨35, _⟩ => ⟨S1x512x256x128, .f32⟩
  | .hbm, ⟨36, _⟩ => ⟨S1x256x128x512, .f32⟩
  | .hbm, ⟨37, _⟩ => ⟨S1x512x256x128, .f32⟩
  | .hbm, ⟨38, _⟩ => ⟨S1x512x256x128, .f32⟩
  | .hbm, ⟨39, _⟩ => ⟨S1x1024x256x128, .f32⟩
  | .hbm, ⟨40, _⟩ => ⟨S1x1024x256x128, .f32⟩
  | .hbm, ⟨41, _⟩ => ⟨S1x256x512x1024, .f32⟩
  | .hbm, ⟨42, _⟩ => ⟨S_, .f32⟩
  | .hbm, ⟨43, _⟩ => ⟨S1x256x512x1024, .f32⟩
  | .hbm, ⟨44, _⟩ => ⟨S1x256x512x1024, .f32⟩
  | .hbm, ⟨45, _⟩ => ⟨S_, .f32⟩
  | .hbm, ⟨46, _⟩ => ⟨S1x256x512, .f32⟩
  | .hbm, ⟨47, _⟩ => ⟨S1x256x512x1, .f32⟩
  | .hbm, ⟨48, _⟩ => ⟨S1x256x512x1, .f32⟩
  | .hbm, ⟨49, _⟩ => ⟨S1x256x512x1, .f32⟩
  | .hbm, ⟨50, _⟩ => ⟨S1x256x512x1, .f32⟩
  | .hbm, ⟨51, _⟩ => ⟨S1x256x512x1024, .f32⟩
  | .hbm, ⟨52, _⟩ => ⟨S1x256x512x1024, .f32⟩
  | .hbm, ⟨53, _⟩ => ⟨S1x256x512x1024, .f32⟩
  | .hbm, ⟨54, _⟩ => ⟨S1x256x512x1, .f32⟩
  | .hbm, ⟨55, _⟩ => ⟨S_, .f32⟩
  | .hbm, ⟨56, _⟩ => ⟨S1x256x512, .f32⟩
  | .hbm, ⟨57, _⟩ => ⟨S1x256x512x1, .f32⟩
  | .hbm, ⟨58, _⟩ => ⟨S1x256x512x1, .f32⟩
  | .hbm, ⟨59, _⟩ => ⟨S1x512x256x1, .f32⟩
  | .hbm, ⟨60, _⟩ => ⟨S1x512x256x128, .f32⟩
  | .hbm, ⟨61, _⟩ => ⟨S1x512x256x128, .f32⟩
  | .hbm, ⟨62, _⟩ => ⟨S1x256x128x512, .f32⟩
  | .hbm, ⟨63, _⟩ => ⟨S1x512x256x128, .f32⟩
  | .hbm, ⟨64, _⟩ => ⟨S1x512x256x128, .f32⟩
  | .hbm, ⟨65, _⟩ => ⟨S1x512x256x1, .f32⟩
  | .hbm, ⟨66, _⟩ => ⟨S1x512x256x128, .f32⟩
  | .hbm, ⟨67, _⟩ => ⟨S1x512x256x128, .f32⟩
  | .hbm, ⟨68, _⟩ => ⟨S1x512x32768, .f32⟩
  | .hbm, ⟨69, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Mesh.lean ====
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

/-! # The butterfly's geometry

Thirty-two devices meet in five rounds.  In round `k` the partner of a device is the device whose
number differs in bit `k`; the rows in play halve each time, from all 512 to the 16 a device reduces. -/

@[expose] public section
namespace Cert.KernelIdealProof
open Cert.KernelIdeal Cert.KernelIdeal.Gen
open Idealize.ShloMosaic

/-- The partner in round `k`: bit `k` of the device number flipped. -/
def peer (k : Fin 5) (c : Dev nD) : Dev nD := ⟨(c.val ^^^ 2 ^ k.val) % 32, Nat.mod_lt _ (by decide)⟩

/-- Bit `k` of the device number. -/
def bit (k : ℕ) (c : Dev nD) : ℕ := c.val / 2 ^ k % 2

/-- The rows one device sends in round `k`. -/
def half (k : ℕ) : ℕ := 256 / 2 ^ k

/-- Where the landing rows of round `k` start in the receiving buffer. -/
def slot (k : ℕ) : ℕ := 512 - 2 * half k

/-- The first row a device still works on before round `k`. -/
def off : ℕ → Dev nD → ℕ
  | 0, _ => 0
  | k + 1, c => off k c + bit k c * half k

/-- The first row a device sends away in round `k`. -/
def sendOff (k : ℕ) (c : Dev nD) : ℕ := off k c + (1 - bit k c) * half k

/-- The device that ends with row `r` reduced. -/
def owner (r : ℕ) : Dev nD :=
  ⟨(r / 256 % 2 + r / 128 % 2 * 2 + r / 64 % 2 * 4 + r / 32 % 2 * 8 + r / 16 % 2 * 16) % 32, Nat.mod_lt _ (by decide)⟩

theorem peer_peer : ∀ (k : Fin 5) (c : Dev nD), peer k (peer k c) = c := by decide +kernel
theorem peer_ne : ∀ (k : Fin 5) (c : Dev nD), peer k c ≠ c := by decide +kernel
theorem sendOff_eq : ∀ (k : Fin 5) (c : Dev nD), sendOff k c = off (k + 1) (peer k c) := by decide +kernel
theorem sendOff_peer : ∀ (k : Fin 5) (c : Dev nD), sendOff k (peer k c) = off (k + 1) c := by decide +kernel
theorem off_peer : ∀ (k : Fin 5) (c : Dev nD), off k (peer k c) = off k c := by decide +kernel
theorem off_bound : ∀ (k : Fin 5) (c : Dev nD), off k c + 2 * half k ≤ 512 := by decide +kernel
theorem off_succ_bound : ∀ (k : Fin 5) (c : Dev nD), off (k + 1) c + half k ≤ 512 := by decide +kernel
theorem off_cases : ∀ (k : Fin 5) (c : Dev nD),
    (off (k + 1) c = off k c ∧ off (k + 1) (peer k c) = off k c + half k)
      ∨ (off (k + 1) c = off k c + half k ∧ off (k + 1) (peer k c) = off k c) := by decide +kernel
theorem slot_bound : ∀ k : Fin 5, slot k + half k ≤ 496 := by decide +kernel
theorem half_pos : ∀ k : Fin 5, 0 < half k := by decide +kernel
theorem half_succ : ∀ k : Fin 4, 2 * half (k + 1) = half k := by decide +kernel
theorem owner_eq : ∀ (c : Dev nD) (i : Fin 16), owner (off 5 c + i) = c := by decide +kernel
theorem off_five_bound : ∀ c : Dev nD, off 5 c + 16 ≤ 512 := by decide +kernel

/-! ## The printed device numbers and offsets -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 0 c := by decide +kernel
theorem dev7_eq : ∀ c : Dev nD, (⟨k0_dev7 c, k0_dev7_lt c⟩ : Dev nD) = peer 1 c := by decide +kernel
theorem dev8_eq : ∀ c : Dev nD, (⟨k0_dev8 c, k0_dev8_lt c⟩ : Dev nD) = peer 2 c := by decide +kernel
theorem dev9_eq : ∀ c : Dev nD, (⟨k0_dev9 c, k0_dev9_lt c⟩ : Dev nD) = peer 3 c := by decide +kernel
theorem dev10_eq : ∀ c : Dev nD, (⟨k0_dev10 c, k0_dev10_lt c⟩ : Dev nD) = peer 4 c := by decide +kernel
theorem dev11_eq : ∀ c : Dev nD, (⟨k0_dev11 c, k0_dev11_lt c⟩ : Dev nD) = peer 4 c := by decide +kernel
theorem dev12_eq : ∀ c : Dev nD, (⟨k0_dev12 c, k0_dev12_lt c⟩ : Dev nD) = peer 3 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 1 c := by decide +kernel
theorem dev15_eq : ∀ c : Dev nD, (⟨k0_dev15 c, k0_dev15_lt c⟩ : Dev nD) = peer 0 c := by decide +kernel

theorem off2_eq : ∀ c : Dev nD, k0_off2 c = ![sendOff 0 c, 0] := by decide +kernel
theorem off3_eq : ∀ c : Dev nD, k0_off3 c = ![off 1 c, 0] := by decide +kernel
theorem off4_eq : ∀ c : Dev nD, k0_off4 c = ![sendOff 1 c, 0] := by decide +kernel
theorem off5_eq : ∀ c : Dev nD, k0_off5 c = ![off 2 c, 0] := by decide +kernel
theorem off6_eq : ∀ c : Dev nD, k0_off6 c = ![sendOff 2 c, 0] := by decide +kernel
theorem off7_eq : ∀ c : Dev nD, k0_off7 c = ![off 3 c, 0] := by decide +kernel
theorem off8_eq : ∀ c : Dev nD, k0_off8 c = ![sendOff 3 c, 0] := by decide +kernel
theorem off9_eq : ∀ c : Dev nD, k0_off9 c = ![off 4 c, 0] := by decide +kernel
theorem off10_eq : ∀ c : Dev nD, k0_off10 c = ![sendOff 4 c, 0] := by decide +kernel
theorem off11_eq : ∀ c : Dev nD, k0_off11 c = ![off 5 c, 0] := by decide +kernel
theorem off12_eq : ∀ c : Dev nD, k0_off12 c = ![off 5 c, 0] := by decide +kernel
theorem off13_eq : ∀ c : Dev nD, k0_off13 c = ![off 4 c, 0] := by decide +kernel
theorem off14_eq : ∀ c : Dev nD, k0_off14 c = ![off 3 c, 0] := by decide +kernel
theorem off15_eq : ∀ c : Dev nD, k0_off15 c = ![off 2 c, 0] := by decide +kernel
theorem off16_eq : ∀ c : Dev nD, k0_off16 c = ![off 1 c, 0] := by decide +kernel

/-! ## Bands of rows -/

/-- `n` rows of 1024 numbers. -/
abbrev rowShape (n : ℕ) : Shape := ⟨2, ![n, 1024]⟩

/-- Rows `o … o + n` of a buffer of `R` rows. -/
def rowsOf (R o n : ℕ) : Finset (rowShape R).Idx :=
  Finset.univ.filter fun i => o ≤ (i 0).val ∧ (i 0).val < o + n

theorem mem_rowsOf {R o n : ℕ} {i : (rowShape R).Idx} : i ∈ rowsOf R o n ↔ o ≤ (i 0).val ∧ (i 0).val < o + n := by
  simp [rowsOf]

/-- A rectangle of whole rows is a band. -/
theorem set_rows {R o n : ℕ} (inb : ∀ a, (![o, 0] : Fin 2 → ℕ) a + (rowShape n).size a ≤ (rowShape R).size a) :
    (Rect.unit (s := rowShape R) ![o, 0] (rowShape n).size inb).set = rowsOf R o n := by
  ext i
  rw [Rect.mem_set_unit, mem_rowsOf, Fin.forall_fin_two]
  have h : (i 1).val < 1024 := (i 1).isLt
  constructor
  · intro h'; exact h'.1
  · intro h'; exact ⟨h', Nat.zero_le _, by simpa using h⟩

theorem rowsOf_full (R : ℕ) : rowsOf R 0 R = Finset.univ := by
  ext i
  have h : (i 0).val < R := (i 0).isLt
  simp [mem_rowsOf, h]

theorem rowsOf_add (R o a b : ℕ) : rowsOf R o (a + b) = rowsOf R o a ∪ rowsOf R (o + a) b := by
  ext i; simp only [mem_rowsOf, Finset.mem_union]; omega

theorem rowsOf_disjoint {R o a o' b : ℕ} (h : o + a ≤ o' ∨ o' + b ≤ o) : Disjoint (rowsOf R o a) (rowsOf R o' b) := by
  rw [Finset.disjoint_left]
  intro i; simp only [mem_rowsOf]; omega

/-- Round `k`'s rows are the two halves the partners keep. -/
theorem rowsOf_halves (k : Fin 5) (c : Dev nD) :
    rowsOf 512 (off k c) (2 * half k) = rowsOf 512 (off (k + 1) c) (half k) ∪ rowsOf 512 (off (k + 1) (peer k c)) (half k) := by
  rcases off_cases k c with ⟨h1, h2⟩ | ⟨h1, h2⟩
  · rw [h1, h2, two_mul, rowsOf_add]
  · rw [h1, h2, two_mul, rowsOf_add, Finset.union_comm]

theorem rowsOf_halves_disjoint (k : Fin 5) (c : Dev nD) :
    Disjoint (rowsOf 512 (off (k + 1) c) (half k)) (rowsOf 512 (off (k + 1) (peer k c)) (half k)) := by
  rcases off_cases k c with ⟨h1, h2⟩ | ⟨h1, h2⟩ <;> rw [h1, h2] <;> exact rowsOf_disjoint (by omega)

/-- The landing bands of the five rounds tile the receiving buffer. -/
theorem rowsOf_slots : (Finset.univ : Finset (rowShape 496).Idx)
    = (Finset.univ : Finset (Fin 5)).biUnion fun k => rowsOf 496 (slot k) (half k) := by
  ext i
  have h : (i 0).val < 496 := (i 0).isLt
  simp only [Finset.mem_univ, Finset.mem_biUnion, mem_rowsOf, true_and, true_iff]
  by_cases h0 : (i 0).val < 256
  · exact ⟨0, by simp [slot, half]; omega⟩
  by_cases h1 : (i 0).val < 384
  · exact ⟨1, by simp [slot, half]; omega⟩
  by_cases h2 : (i 0).val < 448
  · exact ⟨2, by simp [slot, half]; omega⟩
  by_cases h3 : (i 0).val < 480
  · exact ⟨3, by simp [slot, half]; omega⟩
  · exact ⟨4, by simp [slot, half]; omega⟩

theorem slots_sep : ∀ k k' : Fin 5, k ≠ k' → slot k + half k ≤ slot k' ∨ slot k' + half k' ≤ slot k := by decide +kernel

end Cert.KernelIdealProof
-- ==== Proof.Content.lean ====
module
public import proofs.«01_k».proof.Proof.Mesh

/-! # What the buffers hold

The contents of the exchanged rows, as tables of numbers by row and column, for any float values. -/

@[expose] public section
noncomputable section
namespace Cert.KernelIdealProof
open Cert.KernelIdeal Cert.KernelIdeal.Gen
open Idealize.ShloMosaic

variable {F : FTy → Type} [FloatOps F]

/-- A table of half-precision numbers by row and column. -/
abbrev Tab (F : FTy → Type) : Type := ℕ → ℕ → F .bf16

/-- The table as the contents of a buffer of `R` rows. -/
def toRows (R : ℕ) (g : Tab F) : (rowShape R).Idx → F .bf16 := fun i => g (i 0).val (i 1).val

/-- An index of a buffer of 512 rows. -/
def idx512 (r j : ℕ) : S512x1024.Idx :=
  fun a => match a with
    | ⟨0, _⟩ => ⟨r % 512, Nat.mod_lt _ (by decide)⟩
    | ⟨1, _⟩ => ⟨j % 1024, Nat.mod_lt _ (by decide)⟩

/-- The contents of a buffer of 512 rows as a table. -/
def ofRows (f : S512x1024.Idx → F .bf16) : Tab F := fun r j => f (idx512 r j)

theorem idx512_val (i : S512x1024.Idx) : idx512 (i 0).val (i 1).val = i := by
  have h0 : (i 0).val < 512 := (i 0).isLt
  have h1 : (i 1).val < 1024 := (i 1).isLt
  funext a
  match a with
  | ⟨0, _⟩ => exact Fin.ext (Nat.mod_eq_of_lt h0)
  | ⟨1, _⟩ => exact Fin.ext (Nat.mod_eq_of_lt h1)

theorem toRows_ofRows (f : S512x1024.Idx → F .bf16) : toRows 512 (ofRows f) = f := by
  funext i; exact congrArg f (idx512_val i)

/-- What every device holds at the start: its staged blocks and its two arrays of keys and values. -/
structure Inp (F : FTy → Type) where
  x : Dev nD → (cc0_stg0_0 : Ref sig .tc).ty.Contents (Elt F)
  wq : Dev nD → (cc0_stg1_0 : Ref sig .tc).ty.Contents (Elt F)
  wo : Dev nD → (cc0_stg2_0 : Ref sig .tc).ty.Contents (Elt F)
  k : Dev nD → (main_arg2 : Ref sig .tc).ty.Contents (Elt F)
  v : Dev nD → (main_arg3 : Ref sig .tc).ty.Contents (Elt F)

variable (I : Inp F)

/-- The eight heads' part of a keys or values array that a device copies in. -/
abbrev kvM (a : Memref sig .tc .hbm S1x2048x256x128 .f32) (c : Dev nD) : Memref sig .tc .hbm S2048x8x128 .f32 :=
  (a.slice (Rect.unit (s := S1x2048x256x128) (k0_off1 c) S1x2048x8x128.size (k0_off1_inb c)) (fun _ => rfl)).squeeze
    S2048x8x128 squeezes_S1x2048x8x128_S2048x8x128

abbrev kArr (c : Dev nD) : Memref sig .tc .hbm S2048x8x128 .f32 := kvM (Memref.whole main_arg2) c
abbrev vArr (c : Dev nD) : Memref sig .tc .hbm S2048x8x128 .f32 := kvM (Memref.whole main_arg3) c

def kbuf (c : Dev nD) : (cc0_scratch0 : Ref sig .tc).ty.Contents (Elt F) := (kArr c).view.read (Elt F) (I.k c)
def vbuf (c : Dev nD) : (cc0_scratch1 : Ref sig .tc).ty.Contents (Elt F) := (vArr c).view.read (Elt F) (I.v c)

/-- One head's attention over all 2048 rows of keys and values. -/
def headP (qh : FVec F S512x128 .f32) (kh vh : Vec F S2048x1x128 .f32) : FVec F S512x128 .bf16 :=
  let s : FVec F S512x2048 .f32 :=
    mulf (matmul dot_S512x128_S2048x128_S512x2048_1_1_0_0_n_n none (truncf .bf16 qh bitsLt_bf16_f32)
      (truncf .bf16 (shapeCast S2048x128 kh shapeCasts_S2048x1x128_S2048x128) bitsLt_bf16_f32)
      (constant S512x2048 .f32 0x00000000#32)) (broadcast S512x2048 (Scalar.ofBits .f32 0x3DB504F3#32))
  let m : FVec F S512 .f32 := multiReduction .maximumf [1] S512 s 0xFF800000#32 reduces_S512x2048_S512 (.inl rfl) rfl
  let p : FVec F S512x2048 .f32 :=
    exp (subf s (broadcastTo S512x2048 (shapeCast S512x1 m shapeCasts_S512_S512x1) broadcasts_S512x1_S512x2048))
  let l : FVec F S512 .f32 := multiReduction .add [1] S512 p 0x00000000#32 reduces_S512x2048_S512 (.inl rfl) rfl
  let o : FVec F S512x128 .f32 := matmul dot_S512x2048_S2048x128_S512x128_1_0_0_1_n_n none (truncf .bf16 p bitsLt_bf16_f32)
    (truncf .bf16 (shapeCast S2048x128 vh shapeCasts_S2048x1x128_S2048x128) bitsLt_bf16_f32) (constant S512x128 .f32 0x00000000#32)
  shapeCast S512x128 (truncf .bf16 (divf o (broadcastTo S512x128 (shapeCast S512x1 l shapeCasts_S512_S512x1) broadcasts_S512x1_S512x128))
    bitsLt_bf16_f32) shapeCasts_S512x128_S512x128

theorem colSlices (h : Fin 8) : S512x1024.Slices ![0, 128 * h.val] S512x128 := by revert h; decide

/-- Head `h`'s 128 columns of the queries. -/
def qcols (h : Fin 8) (q : FVec F S512x1024 .f32) : FVec F S512x128 .f32 :=
  extractStridedSlice S512x128 ![0, 128 * h.val] q (colSlices h)

theorem headInb (h : Fin 8) : ∀ a, (![0, h.val, 0] : Fin 3 → ℕ) a + S2048x1x128.size a ≤ S2048x8x128.size a := by revert h; decide

/-- Head `h`'s rows of the copied keys or values. -/
def krows (h : Fin 8) (b : S2048x8x128.Idx → F .f32) : Vec F S2048x1x128 .f32 :=
  fun i => b ((Rect.unit (s := S2048x8x128) ![0, h.val, 0] S2048x1x128.size (headInb h)).emb i)

/-- Head `h`'s attention on device `c`. -/
def headOut (h : Fin 8) (c : Dev nD) : FVec F S512x128 .bf16 :=
  headP (qcols h (k0_pay2 (I.x c) (I.wq c))) (krows h (kbuf I c)) (krows h (vbuf I c))

/-- An index of one head's block. -/
def idx128 (r j : ℕ) : S512x128.Idx :=
  fun a => match a with
    | ⟨0, _⟩ => ⟨r % 512, Nat.mod_lt _ (by decide)⟩
    | ⟨1, _⟩ => ⟨j % 128, Nat.mod_lt _ (by decide)⟩

/-- The eight heads side by side. -/
def attnB (c : Dev nD) : (cc0_scratch2 : Ref sig .tc).ty.Contents (Elt F) :=
  fun i => headOut I ⟨(i 1).val / 128 % 8, Nat.mod_lt _ (by decide)⟩ c (idx128 (i 0).val (i 1).val)

/-- The table device `c` holds before round `k` of the reduction: at the start its own product, then the sum of its own
    and its partner's. -/
def A : ℕ → Dev nD → Tab F
  | 0, c => ofRows (k0_pay14 (attnB I c) (I.wo c))
  | k + 1, c => fun r j => FloatOps.addf (A k c r j) (A k (peer ⟨k % 5, Nat.mod_lt _ (by decide)⟩ c) r j)

theorem A_succ (k : Fin 5) (c : Dev nD) (r j : ℕ) : A I (k + 1) c r j = FloatOps.addf (A I k c r j) (A I k (peer k c) r j) := by
  have h : (⟨k.val % 5, Nat.mod_lt _ (by decide)⟩ : Fin 5) = k := Fin.ext (Nat.mod_eq_of_lt k.isLt)
  show FloatOps.addf (A I k c r j) (A I k (peer ⟨k.val % 5, Nat.mod_lt _ (by decide)⟩ c) r j) = _
  rw [h]

/-- The gathered result: each row as the device that ended with it reduced it. -/
def gat : Tab F := fun r j => A I 5 (owner r) r j

/-- What every device writes out. -/
def outAt : (cc0_stg3_0 : Ref sig .tc).ty.Contents (Elt F) := k0_pay1 (toRows 512 (gat I))

theorem gat_own (c : Dev nD) (r j : ℕ) (h : off 5 c ≤ r ∧ r < off 5 c + 16) : A I 5 c r j = gat I r j := by
  have e : owner r = c := by
    have := owner_eq c ⟨r - off 5 c, by omega⟩
    rwa [show off 5 c + (⟨r - off 5 c, by omega⟩ : Fin 16).val = r by simp; omega] at this
  rw [gat, e]

end Cert.KernelIdealProof
-- ==== Proof.Schedule.lean ====
module
public import proofs.«01_k».proof.Proof.Content
public import Idealize.ShloMosaic.Lib.Pipeline.Launch
public import Idealize.ShloMosaic.Lib.Pipeline.Kit
public import Idealize.ShloMosaic.Lib.Tactic

/-! # The protocol

Per device: the barrier semaphore, which its five partners raise by one each, handing over the band of their receiving
buffer that round lands in; two cells for the copies of keys and values; ten send cells and ten receive cells, one per
transfer.  Transfers 0 to 4 are the reduction's rounds 0 to 4, transfers 5 to 9 the gathering's, at rounds 4 to 0. -/

@[expose] public section
noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The schedule's own ghost state: rounds whose duties are numbered 0 to 4. -/
abbrev UB : Type := URounds (GSem nD τ sig) (Fin 5)
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

abbrev barS : Sem sig := (SemArray.scalar (sig.barrier 0 rfl) : Sems sig S_).sem
def cpyS (i : Fin 2) : DmaSem sig := ⟨4 + i.val, by have := i.isLt; show 4 + i.val < 26; omega⟩
def sendS (j : Fin 10) : DmaSem sig := ⟨6 + j.val, by have := j.isLt; show 6 + j.val < 26; omega⟩
def recvS (j : Fin 10) : DmaSem sig := ⟨16 + j.val, by have := j.isLt; show 16 + j.val < 26; omega⟩

/-- The kernel's own semaphores: two for copies, ten for sends, ten for receives. -/
abbrev OI : Type := Fin 2 ⊕ Fin 10 ⊕ Fin 10
/-- With the barrier semaphore. -/
abbrev CI : Type := Unit ⊕ OI

def osem : OI → SemLoc sig
  | .inl i => .dma (cpyS i)
  | .inr (.inl j) => .dma (sendS j)
  | .inr (.inr j) => .dma (recvS j)

def csem : CI → SemLoc sig
  | .inl _ => .reg barS
  | .inr k => osem k

/-- Which cell of the protocol a semaphore is. -/
def kind : SemLoc sig → Option CI
  | .reg s => if s = barS then some (.inl ()) else none
  | .dma q =>
    if q.val < 4 then none
    else if q.val < 6 then some (.inr (.inl ⟨(q.val - 4) % 2, Nat.mod_lt _ (by decide)⟩))
    else if q.val < 16 then some (.inr (.inr (.inl ⟨(q.val - 6) % 10, Nat.mod_lt _ (by decide)⟩)))
    else some (.inr (.inr (.inr ⟨(q.val - 16) % 10, Nat.mod_lt _ (by decide)⟩)))

theorem kind_csem : ∀ i : CI, kind (csem i) = some i := by decide
theorem csem_injective : Function.Injective csem := fun i i' h => Option.some.inj (by rw [← kind_csem i, h, kind_csem])

abbrev kcell (ci : Dev nD × CI) : GSem nD τ sig := ((ci.1 : Thread nD τ), csem ci.2)
abbrev barCell (c : Dev nD) : GSem nD τ sig := ((c : Thread nD τ), .reg barS)
abbrev cpyCell (i : Fin 2) (c : Dev nD) : GSem nD τ sig := ((c : Thread nD τ), .dma (cpyS i))
abbrev sendCell (j : Fin 10) (c : Dev nD) : GSem nD τ sig := ((c : Thread nD τ), .dma (sendS j))
abbrev recvCell (j : Fin 10) (c : Dev nD) : GSem nD τ sig := ((c : Thread nD τ), .dma (recvS j))

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- The round of transfer `j`. -/
def stg (j : Fin 10) : Fin 5 := ⟨if j.val < 5 then j.val else 9 - j.val, by have := j.isLt; split <;> omega⟩
/-- The reduction's transfer of round `k`. -/
def rs (k : Fin 5) : Fin 10 := ⟨k.val, by have := k.isLt; omega⟩
/-- The gathering's transfer of round `k`. -/
def ag (k : Fin 5) : Fin 10 := ⟨9 - k.val, by have := k.isLt; omega⟩
theorem stg_rs : ∀ k, stg (rs k) = k := by decide
theorem stg_ag : ∀ k, stg (ag k) = k := by decide
theorem rs_lt : ∀ k, (rs k).val < 5 := by decide
theorem ag_ge : ∀ k, ¬ (ag k).val < 5 := by decide
/-- The device transfer `j` goes to, and comes from. -/
def partner (j : Fin 10) (c : Dev nD) : Dev nD := peer (stg j) c
theorem partner_partner (j : Fin 10) (c : Dev nD) : partner j (partner j c) = c := peer_peer _ _

/-! ## Amounts -/

/-- The credit of a band of `n` rows. -/
abbrev crN (n : ℕ) : ℕ := RefSig.tileCredit (rowShape n) .bf16
/-- The credit of a copy of keys or values. -/
abbrev crK : ℕ := RefSig.tileCredit S2048x8x128 .f32

def amt : Option CI → ℕ
  | some (.inr (.inl _)) => crK
  | some (.inr (.inr (.inl j))) => crN (half (stg j))
  | some (.inr (.inr (.inr j))) => crN (half (stg j))
  | _ => 1

theorem crN_pos : ∀ k : Fin 5, 0 < crN (half k) := by decide +kernel
theorem crK_pos : 0 < crK := by decide +kernel
theorem amt_pos (o : Option CI) : 0 < amt o := by
  rcases o with _ | _ | _ | _ | _
  · exact Nat.one_pos
  · exact Nat.one_pos
  · exact crK_pos
  · exact crN_pos _
  · exact crN_pos _

/-! ## What the cells hand over -/

variable (I : Inp F)

/-- Rows `o … o + n` of device `c`'s accumulator, holding the table `g`. -/
def accR (c : Dev nD) (o n : ℕ) (g : Tab F) : sProp 𝕄 :=
  (c : Thread nD τ).loc cc0_scratch3 ↦[rowsOf 512 o n]{fullShare} toRows 512 g
/-- Round `k`'s band of device `c`'s receiving buffer, holding `f`. -/
def recvR (c : Dev nD) (k : Fin 5) (f : Buf (Elt F) ((c : Thread nD τ).loc cc0_scratch4)) : sProp 𝕄 :=
  (c : Thread nD τ).loc cc0_scratch4 ↦[rowsOf 496 (slot k) (half k)]{fullShare} f

/-- What has landed in round `k`'s band: the partner's rows that this device keeps. -/
def landed (k : Fin 5) (c : Dev nD) : Tab F := fun r j => A I k (peer k c) (r - slot k + off (k + 1) c) j

/-- The share of the keys array lent to the copy. -/
def kSrc (c : Dev nD) : sProp 𝕄 := (kArr c).view.loc (c : Thread nD τ) ↦[(kArr c).view.set]{fullShare.right} I.k c
def vSrc (c : Dev nD) : sProp 𝕄 := (vArr c).view.loc (c : Thread nD τ) ↦[(vArr c).view.set]{fullShare.right} I.v c

def cpyPay (c : Dev nD) (i : Fin 2) : sProp 𝕄 :=
  if i = 0 then iprop(((c : Thread nD τ).loc cc0_scratch0 ↦{fullShare} kbuf I c) ∗ kSrc I c)
  else iprop(((c : Thread nD τ).loc cc0_scratch1 ↦{fullShare} vbuf I c) ∗ vSrc I c)

def barPay (c : Dev nD) (k : Fin 5) : sProp 𝕄 := iprop(∃ f, recvR (F := F) (peer k c) k f)

def sendPay (c : Dev nD) (j : Fin 10) : sProp 𝕄 :=
  if j.val < 5 then iprop(emp) else accR c (off (stg j + 1) c) (half (stg j)) (gat I)

def recvPay (c : Dev nD) (j : Fin 10) : sProp 𝕄 :=
  if j.val < 5 then
    iprop(recvR c (stg j) (toRows 496 (landed I (stg j) c))
      ∗ accR (peer (stg j) c) (off (stg j + 1) c) (half (stg j)) (A I (stg j) (peer (stg j) c)))
  else accR c (off (stg j + 1) (peer (stg j) c)) (half (stg j)) (gat I)

def payOf (c : Dev nD) (d : Fin 5) : Option CI → sProp 𝕄
  | some (.inl _) => barPay c d
  | some (.inr (.inl i)) => cpyPay I c i
  | some (.inr (.inr (.inl j))) => sendPay I c j
  | some (.inr (.inr (.inr j))) => recvPay I c j
  | none => iprop(emp)

def dutySet : Option CI → Finset (Fin 5)
  | some (.inl _) => Finset.univ
  | some (.inr _) => {0}
  | none => ∅

/-- One round for every cell: the barrier has a duty per partner, every other cell of the protocol one. -/
def sched : Rounds.Schedule (GSem nD τ sig) (Fin 5) 𝕄 where
  duties g r := if r = 0 ∧ g.1.2 = .tc then dutySet (kind g.2) else ∅
  unitless _ := False
  amount g _ _ := amt (kind g.2)
  payload g _ d := payOf I g.1.1 d (kind g.2)
  amount_pos g _ _ _ := amt_pos _

instance accR_storable (c : Dev nD) (o n : ℕ) (g : Tab F) : BI.Storable (upEmb : UEmb _ 𝕄) (accR c o n g) := by
  unfold accR; infer_instance
instance recvR_storable (c : Dev nD) (k : Fin 5) (f) : BI.Storable (upEmb : UEmb _ 𝕄) (recvR (F := F) c k f) := by
  unfold recvR; infer_instance
instance barPay_storable (c : Dev nD) (k : Fin 5) : BI.Storable (upEmb : UEmb _ 𝕄) (barPay (F := F) c k) := by
  unfold barPay; infer_instance
instance cpyPay_storable (c : Dev nD) (i : Fin 2) : BI.Storable (upEmb : UEmb _ 𝕄) (cpyPay I c i) := by
  unfold cpyPay kSrc vSrc; split <;> infer_instance
instance sendPay_storable (c : Dev nD) (j : Fin 10) : BI.Storable (upEmb : UEmb _ 𝕄) (sendPay I c j) := by
  unfold sendPay; split <;> infer_instance
instance recvPay_storable (c : Dev nD) (j : Fin 10) : BI.Storable (upEmb : UEmb _ 𝕄) (recvPay I c j) := by
  unfold recvPay; split <;> infer_instance

instance payOf_storable (c : Dev nD) (d : Fin 5) : ∀ o : Option CI, BI.Storable (upEmb : UEmb _ 𝕄) (payOf I c d o)
  | none => by unfold payOf; infer_instance
  | some (.inl _) => by dsimp only [payOf]; infer_instance
  | some (.inr (.inl i)) => by dsimp only [payOf]; infer_instance
  | some (.inr (.inr (.inl j))) => by dsimp only [payOf]; infer_instance
  | some (.inr (.inr (.inr j))) => by dsimp only [payOf]; infer_instance

instance sched_payload_storable (g : GSem nD τ sig) (r : ℕ) (d : Fin 5) :
    BI.Storable (upEmb : UEmb _ 𝕄) ((sched (F := F) I).payload g r d) :=
  payOf_storable I g.1.1 d (kind g.2)

theorem duties_k (c : Dev nD) (i : CI) : (sched I).duties (kcell (c, i)) 0 = dutySet (some i) := by
  dsimp only [sched]; rw [if_pos ⟨rfl, rfl⟩, kind_csem]
theorem duties_later (g : GSem nD τ sig) : ∀ r, 1 ≤ r → (sched I).duties g r = ∅ :=
  fun r hr => by dsimp only [sched]; rw [if_neg fun h => by omega]
theorem amount_k (c : Dev nD) (i : CI) (d : Fin 5) : (sched I).amount (kcell (c, i)) 0 d = amt (some i) := by
  dsimp only [sched]; rw [kind_csem]
theorem payload_k (c : Dev nD) (i : CI) (d : Fin 5) : (sched I).payload (kcell (c, i)) 0 d = payOf I c d (some i) := by
  dsimp only [sched]; rw [kind_csem]

theorem expect_bar (c : Dev nD) : (sched I).expect (barCell c) 0 = 5 := by
  unfold Schedule.expect Schedule.amountOf
  rw [show (sched I).duties (barCell c) 0 = Finset.univ from duties_k I c (.inl ()),
    Finset.sum_congr rfl fun d _ => show (sched I).amount (barCell c) 0 d = 1 from amount_k I c (.inl ()) d]
  decide
theorem expect_own (c : Dev nD) (i : OI) : (sched I).expect (kcell (c, .inr i)) 0 = amt (some (.inr i)) := by
  unfold Schedule.expect Schedule.amountOf
  rw [duties_k]; show Finset.sum {0} _ = _
  rw [Finset.sum_singleton, amount_k]

theorem rest_bar (c : Dev nD) :
    bigSep ((sched I).duties (barCell c) 0 \ ∅) (fun d => (sched I).payload (barCell c) 0 d) = bigSep Finset.univ fun k => barPay (F := F) c k := by
  rw [show (sched I).duties (barCell c) 0 = Finset.univ from duties_k I c (.inl ()), Finset.sdiff_empty]
  exact bigSep_congr fun d _ => payload_k I c (.inl ()) d
theorem rest_own (c : Dev nD) (i : OI) :
    bigSep ((sched I).duties (kcell (c, .inr i)) 0 \ ∅) (fun d => (sched I).payload (kcell (c, .inr i)) 0 d) = payOf I c 0 (some (.inr i)) := by
  rw [Finset.sdiff_empty, duties_k]
  show bigSep {0} _ = _
  rw [bigSep_singleton, payload_k]

/-! ## Levels and debts -/

def L (g : GSem nD τ sig) : Finset Unit := if g.1.2 = .tc then {()} else ∅

def lvOf : Option CI → ℕ
  | some (.inl _) => 1
  | some (.inr (.inr (.inr j))) => 2 + j.val
  | _ => 0

def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (ci : Dev nD × CI) (u : Unit) : lv (kcell ci) u = lvOf (some ci.2) := by unfold lv; rw [kind_csem]
theorem lv_recv (j : Fin 10) (c : Dev nD) (u : Unit) : lv (recvCell j c) u = 2 + j.val := lv_k (c, .inr (.inr (.inr j))) u
theorem lv_bar (c : Dev nD) (u : Unit) : lv (barCell c) u = 1 := lv_k (c, .inl ()) u

/-- The transfer with `n` transfers after it. -/
def nth (n : ℕ) : Fin 10 := ⟨(9 - n) % 10, Nat.mod_lt _ (by decide)⟩
/-- What one transfer owes its target. -/
def debtR (c : Dev nD) (j : Fin 10) : CellTallies nD τ sig Unit := tallyAt (recvCell j (partner j c)) () (crN (half (stg j)))
/-- What the last `n` transfers owe. -/
def OR (c : Dev nD) : ℕ → CellTallies nD τ sig Unit
  | 0 => 0
  | n + 1 => OR c n + debtR c (nth n)
/-- What the last `n` signals and every transfer owe. -/
def OB (c : Dev nD) : ℕ → CellTallies nD τ sig Unit
  | 0 => OR c 10
  | n + 1 => OB c n + tallyAt (barCell (peer ⟨(4 - n) % 5, Nat.mod_lt _ (by decide)⟩ c)) () 1
def O₀ (c : Dev nD) : CellTallies nD τ sig Unit := OB c 5

theorem OR_pos {c : Dev nD} : ∀ {n : ℕ}, n ≤ 10 → ∀ {g : GSem nD τ sig} {u : Unit}, 0 < OR c n g u →
    ∃ j : Fin 10, 10 ≤ j.val + n ∧ g = recvCell j (partner j c)
  | 0, _, _, _, h => absurd h (Nat.lt_irrefl 0)
  | n + 1, hn, g, u, h => by
    unfold OR debtR at h
    rw [Pi.add_apply, Finsupp.add_apply, tallyAt_apply] at h
    by_cases h' : g = recvCell (nth n) (partner (nth n) c) ∧ u = ()
    · refine ⟨nth n, ?_, h'.1⟩
      simp only [nth]; omega
    · rw [if_neg h', Nat.add_zero] at h
      obtain ⟨j, h1, h2⟩ := OR_pos (by omega) h
      exact ⟨j, by omega, h2⟩

theorem OB_pos {c : Dev nD} : ∀ {n : ℕ}, ∀ {g : GSem nD τ sig} {u : Unit}, 0 < OB c n g u →
    (∃ j : Fin 10, g = recvCell j (partner j c)) ∨ ∃ c', g = barCell c'
  | 0, _, _, h => let ⟨j, _, h2⟩ := OR_pos (le_refl 10) h; Or.inl ⟨j, h2⟩
  | n + 1, g, u, h => by
    unfold OB at h
    rw [Pi.add_apply, Finsupp.add_apply, tallyAt_apply] at h
    by_cases h' : g = barCell (peer ⟨(4 - n) % 5, Nat.mod_lt _ (by decide)⟩ c) ∧ u = ()
    · exact Or.inr ⟨_, h'.1⟩
    · rw [if_neg h', Nat.add_zero] at h
      exact OB_pos h

/-- A wait at a level below every transfer still owed. -/
theorem mayWait_OR (c : Dev nD) (sm : SemLoc sig) (n : ℕ) (hn : n ≤ 10) (hl : lvOf (kind sm) < 12 - n) :
    (levAts L lv : sProp 𝕄) ⊢ MayWait (c : Thread nD τ) sm () (OR c n) :=
  MayOwe.of_cut (L := L) (lev := lv) (lvOf (kind sm))
    (fun p hp => by rw [Finset.mem_singleton.mp hp, L_tc]; exact Finset.mem_singleton_self _)
    (fun g u hg => by obtain ⟨j, -, rfl⟩ := OR_pos hn hg; exact Finset.mem_singleton_self _)
    (fun p hp => by rw [Finset.mem_singleton.mp hp]; exact le_refl _)
    (fun g u hg => by obtain ⟨j, hj, rfl⟩ := OR_pos hn hg; rw [lv_recv]; omega)

/-- A wait on a cell of level zero while owing everything, or nothing. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases OB_pos hg with ⟨j, rfl⟩ | ⟨c', rfl⟩ <;> exact Finset.mem_singleton_self _)
      (fun p hp => by rw [Finset.mem_singleton.mp hp]; unfold lv; rw [hq]; exact le_refl 0)
      (fun g u hg => by
        rcases OB_pos hg with ⟨j, rfl⟩ | ⟨c', rfl⟩
        · rw [lv_recv]; omega
        · rw [lv_bar]; omega)
  · rw [MayWait_zero]; iintro -; iempintro

end Cert.KernelIdealProof
-- ==== Proof.Rows.lean ====
module
public import proofs.«01_k».proof.Proof.Schedule
public import Idealize.ShloMosaic.Lib.Pipeline.ValueKit.Geometry

/-! # Reading and writing bands of rows

The exchanged buffers are read, written and sent in bands of whole rows; each fact says what a band holds as a table. -/

@[expose] public section
noncomputable section
namespace Cert.KernelIdealProof
open Cert.KernelIdeal Cert.KernelIdeal.Gen
open Idealize.ShloMosaic

variable {F : FTy → Type} [FloatOps F]

abbrev accM : Memref sig .tc .vmem S512x1024 .bf16 := Memref.whole cc0_scratch3
abbrev recvM : Memref sig .tc .vmem S496x1024 .bf16 := Memref.whole cc0_scratch4

/-- A band of the accumulator. -/
abbrev accV (o n : ℕ) (inb : ∀ a, (![o, 0] : Fin 2 → ℕ) a + (rowShape n).size a ≤ S512x1024.size a) :
    View sig .tc .vmem (rowShape n) .bf16 :=
  (View.whole cc0_scratch3).slice (Rect.unit (s := S512x1024) ![o, 0] (rowShape n).size inb)
/-- A band of the receiving buffer. -/
abbrev recvV (o n : ℕ) (inb : ∀ a, (![o, 0] : Fin 2 → ℕ) a + (rowShape n).size a ≤ S496x1024.size a) :
    View sig .tc .vmem (rowShape n) .bf16 :=
  (View.whole cc0_scratch4).slice (Rect.unit (s := S496x1024) ![o, 0] (rowShape n).size inb)

theorem accV_set (o n inb) : (accV o n inb).set = rowsOf 512 o n := (View.set_slice_whole _ _).trans (set_rows (R := 512) inb)
theorem recvV_set (o n inb) : (recvV o n inb).set = rowsOf 496 o n := (View.set_slice_whole _ _).trans (set_rows (R := 496) inb)

theorem accV_val (o n inb) (x : (rowShape n).Idx) :
    ((accV o n inb).emb x 0).val = o + (x 0).val ∧ ((accV o n inb).emb x 1).val = (x 1).val :=
  ⟨ValueKit.view_emb_slice_whole_unit_val cc0_scratch3 _ _ inb x 0,
    (ValueKit.view_emb_slice_whole_unit_val cc0_scratch3 _ _ inb x 1).trans (Nat.zero_add _)⟩
theorem recvV_val (o n inb) (x : (rowShape n).Idx) :
    ((recvV o n inb).emb x 0).val = o + (x 0).val ∧ ((recvV o n inb).emb x 1).val = (x 1).val :=
  ⟨ValueKit.view_emb_slice_whole_unit_val cc0_scratch4 _ _ inb x 0,
    (ValueKit.view_emb_slice_whole_unit_val cc0_scratch4 _ _ inb x 1).trans (Nat.zero_add _)⟩

theorem acc_read (o n inb) (g : Tab F) (x : (rowShape n).Idx) :
    (accV o n inb).read (Elt F) (toRows 512 g) x = g (o + (x 0).val) (x 1).val := by
  obtain ⟨h0, h1⟩ := accV_val o n inb x
  show g ((accV o n inb).emb x 0).val ((accV o n inb).emb x 1).val = _
  rw [h0, h1]
theorem recv_read (o n inb) (g : Tab F) (x : (rowShape n).Idx) :
    (recvV o n inb).read (Elt F) (toRows 496 g) x = g (o + (x 0).val) (x 1).val := by
  obtain ⟨h0, h1⟩ := recvV_val o n inb x
  show g ((recvV o n inb).emb x 0).val ((recvV o n inb).emb x 1).val = _
  rw [h0, h1]

theorem acc_write (o n inb) (f : (cc0_scratch3 : Ref sig .tc).ty.Contents (Elt F)) (w : (rowShape n).Idx → F .bf16) (g : Tab F)
    (h : ∀ x, w x = g (o + (x 0).val) (x 1).val) :
    ∀ i ∈ rowsOf 512 o n, (accV o n inb).write (Elt F) f w Finset.univ i = toRows 512 g i := by
  intro i hi
  rw [← accV_set o n inb] at hi
  obtain ⟨x, -, rfl⟩ := Finset.mem_map.mp hi
  rw [View.write_emb_of_mem (h := Finset.mem_univ x)]
  obtain ⟨h0, h1⟩ := accV_val o n inb x
  show w x = g ((accV o n inb).emb x 0).val ((accV o n inb).emb x 1).val
  rw [h0, h1, h x]
theorem recv_write (o n inb) (f : (cc0_scratch4 : Ref sig .tc).ty.Contents (Elt F)) (w : (rowShape n).Idx → F .bf16) (g : Tab F)
    (h : ∀ x, w x = g (o + (x 0).val) (x 1).val) :
    ∀ i ∈ rowsOf 496 o n, (recvV o n inb).write (Elt F) f w Finset.univ i = toRows 496 g i := by
  intro i hi
  rw [← recvV_set o n inb] at hi
  obtain ⟨x, -, rfl⟩ := Finset.mem_map.mp hi
  rw [View.write_emb_of_mem (h := Finset.mem_univ x)]
  obtain ⟨h0, h1⟩ := recvV_val o n inb x
  show w x = g ((recvV o n inb).emb x 0).val ((recvV o n inb).emb x 1).val
  rw [h0, h1, h x]

end Cert.KernelIdealProof
-- ==== Proof.Stages.lean ====
module
public import proofs.«01_k».proof.Proof.Rows

/-! # The steps of the body

One statement for each kind of step, at any round: a wait on one of the kernel's own cells, a transfer of the reduction with
its waits and its addition, a transfer of the gathering with its waits. -/

@[expose] public section
noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Inp F) (K : Dev nD × CI → ℕ)

/-- Every cell's invariant, and that every cell has reached its round. -/
def records : sProp 𝕄 :=
  iprop((bigSep Finset.univ fun ci : Dev nD × CI => cellInv ER (sched I) (K ci) (kcell ci))
    ∗ bigSep Finset.univ fun ci : Dev nD × CI => reached ER (kcell ci) 0)

instance records_persistent : BI.Persistent (records I K) := by unfold records; infer_instance

theorem inv_at (c : Dev nD) (i : CI) : (records I K : sProp 𝕄) ⊢ cellInv ER (sched I) (K (c, i)) (kcell (c, i)) := by
  exact (BI.sep_and.trans and_elimL).trans (bigSep_elim (Finset.mem_univ (c, i)) (Φ := fun ci : Dev nD × CI => (cellInv ER (sched I) (K ci) (kcell ci) : sProp 𝕄)))
theorem reached_at (c : Dev nD) (i : CI) : (records I K : sProp 𝕄) ⊢ reached ER (kcell (c, i)) 0 := by
  exact (BI.sep_and.trans and_elimR).trans (bigSep_elim (Finset.mem_univ (c, i)) (Φ := fun ci : Dev nD × CI => (reached ER (kcell ci) 0 : sProp 𝕄)))

/-- What device `c` owes, whatever it has waited for. -/
def ow (c : Dev nD) (O : CellTallies nD τ sig Unit) : sProp 𝕄 := iprop(∃ W, owes (c : Thread nD τ) O W)

/-- A wait for a whole round of one of the kernel's own cells: its payload, and its counter at zero. -/
theorem wait_own (c : Dev nD) (i : OI) {sm : SemLoc sig} (hsm : sm = osem i) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ sm k' Kt)
    (hk : k' = amt (some (.inr i))) (O : CellTallies nD τ sig Unit)
    (hmw : (levAts L lv : sProp 𝕄) ⊢ MayWait (c : Thread nD τ) (osem i) () O)
    {α : Type} {Q : α → sProp 𝕄} {k : PUnit → Prog (TpuEff nD τ sig (Elt F) Λ₀ .tc) α} :
    iprop(records I K ∗ levAts L lv ∗ cred (tallyAt (kcell (c, .inr i)) () (amt (some (.inr i)))) ∗ ow c O ∗ atPos ER (kcell (c, .inr i)) 0 ∅ 0)
      ⊢ iprop(((ow c O ∗ semVal (kcell (c, .inr i)) 0 ∗ payOf I c 0 (some (.inr i)))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hsm
  subst hk
  unfold ow
  iintro ⟨#HR, #Hlev, Hc, ⟨%W, HO⟩, Hat⟩ Hk
  ihave #HI := (inv_at I K c (.inr i)) $$ HR
  iapply (Rounds.wp_wait_rest_token 𝒱₀ ER (sched I) (c : Thread nD τ) none (κ := K (c, .inr i)) (sm := osem i)
      hw (Set.mem_univ _) () (O := O) (W := W) (R := 0) (m := 0) (T := ∅)
      (by rw [Nat.zero_add]; exact (expect_own I c i).symm)) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hp := (show bigSep ((sched I).duties ((c : Thread nD τ), osem i) 0 \ ∅) (fun d => (sched I).payload ((c : Thread nD τ), osem i) 0 d) ⊢ payOf I c 0 (some (.inr i))
    from Entails.of_eq (rest_own I c i)) $$ Hpay
  imod (Rounds.cell_close ER (sched I) (Set.mem_univ (K (c, .inr i))) (fun h => h) (R := 0 + 1) (duties_later I (kcell (c, .inr i)))) $$ [Hat] with Hz
  · isplitr; · iexact HI
    iexact Hat
  iapply Hk
  isplitl [HO]; · iexists _; iexact HO
  isplitl [Hz]; · iexact Hz
  iexact Hp

theorem accV_credit (o n inb) : (accV o n inb).dmaCredit = crN n := rfl
theorem recvV_credit (o n inb) : (recvV o n inb).dmaCredit = crN n := rfl

/-- A memref of rows of the accumulator, and of the receiving buffer. -/
abbrev accS (N : ℕ) (o : Fin 2 → ℕ) (inb : ∀ a, o a + (rowShape N).size a ≤ S512x1024.size a)
    (h : ∀ a, (Rect.unit (s := S512x1024) o (rowShape N).size inb).stride a = 1) : Memref sig .tc .vmem (rowShape N) .bf16 :=
  accM.slice (Rect.unit (s := S512x1024) o (rowShape N).size inb) h
abbrev recvSl (N : ℕ) (o : Fin 2 → ℕ) (inb : ∀ a, o a + (rowShape N).size a ≤ S496x1024.size a)
    (h : ∀ a, (Rect.unit (s := S496x1024) o (rowShape N).size inb).stride a = 1) : Memref sig .tc .vmem (rowShape N) .bf16 :=
  recvM.slice (Rect.unit (s := S496x1024) o (rowShape N).size inb) h

/-- What a landing of the reduction writes is what the schedule hands over. -/
theorem landing (c : Dev nD) (k : Fin 5) (inbS inbV) (f : (cc0_scratch4 : Ref sig .tc).ty.Contents (Elt F)) :
    ∀ i ∈ rowsOf 496 (slot k) (half k),
      (recvV (slot k) (half k) inbV).write (Elt F) f ((accV (sendOff k c) (half k) inbS).read (Elt F) (toRows 512 (A I k c))) Finset.univ i
        = toRows 496 (landed I k (peer k c)) i := by
  refine recv_write _ _ _ _ _ _ fun x => ?_
  rw [acc_read]
  unfold landed
  rw [peer_peer, sendOff_eq, Nat.add_sub_cancel_left, Nat.add_comm]

/-- A transfer of the reduction: rows of the accumulator go to the partner's band, both land with the partner. -/
theorem send_rs (c n : Dev nD) (k : Fin 5) (hn : n = peer k c) (N : ℕ) (hN : N = half k) {offS : Fin 2 → ℕ} {offV : Fin 2 → ℕ}
    (hS : offS = ![sendOff k c, 0]) (hV : offV = ![slot k, 0])
    {inbS : ∀ a, offS a + (rowShape N).size a ≤ S512x1024.size a} {inbV : ∀ a, offV a + (rowShape N).size a ≤ S496x1024.size a}
    {sS sR : DmaSem sig} (hsS : sS = sendS (rs k)) (hsR : sR = recvS (rs k)) {h1 h2}
    {hsc : (recvSl N offV inbV h2).view.ref.isScScratch = false}
    {hsrc : (accS N offS inbS h1).view.WordExact}
    {hdst : (recvSl N offV inbV h2).view.WordExact}
    {hsem : DmaTarget.Typed .vmem (.dma sR) (.remote (Dev.tc n : Thread nD τ) (recvSl N offV inbV h2) (.dma sS) hsc)}
    {O₀ : CellTallies nD τ sig Unit} (O : CellTallies nD τ sig Unit) (hO : O₀ = O + debtR c (rs k))
    {α : Type} {Q : α → sProp 𝕄} {kk : PUnit → Prog (TpuEff nD τ sig (Elt F) Λ₀ .tc) α} :
    iprop(records I K ∗ accR c (sendOff k c) (half k) (A I k c) ∗ (∃ f, recvR (F := F) (peer k c) k f) ∗ ow c O₀
        ∗ dutyTok ER (sendCell (rs k) c) 0 0 ∗ dutyTok ER (recvCell (rs k) (peer k c)) 0 0)
      ⊢ iprop(((cred (tallyAt (sendCell (rs k) c) () (crN (half k))) ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (accS N offS inbS h1)
                (.remote (Dev.tc n : Thread nD τ) (recvSl N offV inbV h2) (.dma sS) hsc)
                (.dma sR) hsrc hdst hsem) kk) Q) := by
  subst hn hN hS hV hsS hsR hO
  unfold ow
  iintro ⟨#HR, Hacc, ⟨%f, Hrecv⟩, ⟨%W, HO⟩, Ht1, Ht2⟩ Hk
  ihave #HI1 := (inv_at I K c (.inr (.inr (.inl (rs k))))) $$ HR
  ihave #HI2 := (inv_at I K (peer k c) (.inr (.inr (.inr (rs k))))) $$ HR
  ihave #Hr1 := (reached_at I K c (.inr (.inr (.inl (rs k))))) $$ HR
  ihave #Hr2 := (reached_at I K (peer k c) (.inr (.inr (.inr (rs k))))) $$ HR
  iapply (Rounds.wp_send_landing_pointsTo 𝒱₀ ER (sched I) (c : Thread nD τ) none (κ₁ := K (c, .inr (.inr (.inl (rs k)))))
    (κ₂ := K (peer k c, .inr (.inr (.inr (rs k))))) (r₁ := 0) (r₂ := 0) (d₁ := 0) (d₂ := 0) (fd := f) (fs := toRows 512 (A I k c)) (q := fullShare)
    (by rw [show (sched I).duties _ 0 = dutySet _ from duties_k I c (.inr (.inr (.inl (rs k))))]; exact Finset.mem_singleton_self _)
    (by rw [show (sched I).duties _ 0 = dutySet _ from duties_k I (peer k c) (.inr (.inr (.inr (rs k))))]; exact Finset.mem_singleton_self _)
    () () (crN (half k)) rfl
    ((amount_k I c (.inr (.inr (.inl (rs k)))) 0).trans (by simp only [amt, stg_rs]))
    ((amount_k I (peer k c) (.inr (.inr (.inr (rs k)))) 0).trans (by simp only [amt, stg_rs])) O
    (by show O + debtR c (rs k) = _; unfold debtR partner; rw [stg_rs]; rfl) (W := W)
    (by
      rw [show (sched I).payload _ 0 0 = _ from payload_k I c (.inr (.inr (.inl (rs k)))) 0]
      simp only [payOf, sendPay, if_pos (rs_lt k)]; exact BI.Entails.refl _)
    (by
      rw [show (sched I).payload _ 0 0 = _ from payload_k I (peer k c) (.inr (.inr (.inr (rs k)))) 0]
      simp only [payOf, recvPay, if_pos (rs_lt k), stg_rs]
      unfold recvR accR
      rw [peer_peer, ← sendOff_eq, ← accV_set (sendOff k c) (half k) inbS, ← recvV_set (slot k) (half k) inbV]
      exact BI.sep_mono (Entails.of_eq (pointsTo_congr fun i hi => landing I c k inbS inbV f i (by rw [← recvV_set (slot k) (half k) inbV]; exact hi)))
        (BI.Entails.refl _))) $$ [Hacc Hrecv HO Ht1 Ht2]
  · isplitr; · iexact HI1
    isplitr; · iexact HI2
    isplitl [Hacc]
    · unfold accR
      rw [← accV_set (sendOff k c) (half k) inbS]; iexact Hacc
    isplitl [Hrecv]
    · unfold recvR
      rw [← recvV_set (slot k) (half k) inbV]; iexact Hrecv
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- What a landing of the gathering writes is the sender's rows. -/
theorem gathering (c : Dev nD) (k : Fin 5)
    (inb : ∀ a, (![off (k + 1) c, 0] : Fin 2 → ℕ) a + (rowShape (half k)).size a ≤ S512x1024.size a)
    (f : (cc0_scratch3 : Ref sig .tc).ty.Contents (Elt F)) (g : Tab F) :
    ∀ i ∈ rowsOf 512 (off (k + 1) c) (half k),
      (accV (off (k + 1) c) (half k) inb).write (Elt F) f ((accV (off (k + 1) c) (half k) inb).read (Elt F) (toRows 512 g)) Finset.univ i
        = toRows 512 g i :=
  acc_write _ _ _ _ _ _ fun x => acc_read _ _ _ _ _

/-- A transfer of the gathering: the rows this device has go to the same rows of the partner. -/
theorem send_ag (c n : Dev nD) (k : Fin 5) (hn : n = peer k c) (N : ℕ) (hN : N = half k) {offS offV : Fin 2 → ℕ}
    (hS : offS = ![off (k + 1) c, 0]) (hV : offV = ![off (k + 1) c, 0])
    {inbS : ∀ a, offS a + (rowShape N).size a ≤ S512x1024.size a} {inbV : ∀ a, offV a + (rowShape N).size a ≤ S512x1024.size a}
    {sS sR : DmaSem sig} (hsS : sS = sendS (ag k)) (hsR : sR = recvS (ag k)) {h1 h2}
    {hsc : (accS N offV inbV h2).view.ref.isScScratch = false}
    {hsrc : (accS N offS inbS h1).view.WordExact}
    {hdst : (accS N offV inbV h2).view.WordExact}
    {hsem : DmaTarget.Typed .vmem (.dma sR) (.remote (Dev.tc n : Thread nD τ) (accS N offV inbV h2) (.dma sS) hsc)}
    {O₀ : CellTallies nD τ sig Unit} (O : CellTallies nD τ sig Unit) (hO : O₀ = O + debtR c (ag k))
    {α : Type} {Q : α → sProp 𝕄} {kk : PUnit → Prog (TpuEff nD τ sig (Elt F) Λ₀ .tc) α} :
    iprop(records I K ∗ accR c (off (k + 1) c) (half k) (gat I) ∗ (∃ g, accR (F := F) (peer k c) (off (k + 1) c) (half k) g) ∗ ow c O₀
        ∗ dutyTok ER (sendCell (ag k) c) 0 0 ∗ dutyTok ER (recvCell (ag k) (peer k c)) 0 0)
      ⊢ iprop(((cred (tallyAt (sendCell (ag k) c) () (crN (half k))) ∗ ow c O)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (accS N offS inbS h1)
                (.remote (Dev.tc n : Thread nD τ) (accS N offV inbV h2) (.dma sS) hsc)
                (.dma sR) hsrc hdst hsem) kk) Q) := by
  subst hn hN hS hV hsS hsR hO
  unfold ow
  iintro ⟨#HR, Hacc, ⟨%g, Hrecv⟩, ⟨%W, HO⟩, Ht1, Ht2⟩ Hk
  ihave #HI1 := (inv_at I K c (.inr (.inr (.inl (ag k))))) $$ HR
  ihave #HI2 := (inv_at I K (peer k c) (.inr (.inr (.inr (ag k))))) $$ HR
  ihave #Hr1 := (reached_at I K c (.inr (.inr (.inl (ag k))))) $$ HR
  ihave #Hr2 := (reached_at I K (peer k c) (.inr (.inr (.inr (ag k))))) $$ HR
  iapply (Rounds.wp_send_pointsTo 𝒱₀ ER (sched I) (c : Thread nD τ) none (κ₁ := K (c, .inr (.inr (.inl (ag k)))))
    (κ₂ := K (peer k c, .inr (.inr (.inr (ag k))))) (r₁ := 0) (r₂ := 0) (d₁ := 0) (d₂ := 0) (fd := toRows 512 g) (fs := toRows 512 (gat I)) (q := fullShare)
    (by rw [show (sched I).duties _ 0 = dutySet _ from duties_k I c (.inr (.inr (.inl (ag k))))]; exact Finset.mem_singleton_self _)
    (by rw [show (sched I).duties _ 0 = dutySet _ from duties_k I (peer k c) (.inr (.inr (.inr (ag k))))]; exact Finset.mem_singleton_self _)
    () () (crN (half k)) rfl
    ((amount_k I c (.inr (.inr (.inl (ag k)))) 0).trans (by simp only [amt, stg_ag]))
    ((amount_k I (peer k c) (.inr (.inr (.inr (ag k)))) 0).trans (by simp only [amt, stg_ag])) O
    (by show O + debtR c (ag k) = _; unfold debtR partner; rw [stg_ag]; rfl) (W := W)
    (by
      rw [show (sched I).payload _ 0 0 = _ from payload_k I c (.inr (.inr (.inl (ag k)))) 0]
      simp only [payOf, sendPay, if_neg (ag_ge k), stg_ag]
      unfold accR
      rw [← accV_set (off (k + 1) c) (half k) inbS])
    (by
      rw [show (sched I).payload _ 0 0 = _ from payload_k I (peer k c) (.inr (.inr (.inr (ag k)))) 0]
      simp only [payOf, recvPay, if_neg (ag_ge k), stg_ag]
      unfold accR
      rw [peer_peer, ← accV_set (off (k + 1) c) (half k) inbV]
      exact Entails.of_eq (pointsTo_congr fun i hi => gathering c k inbV (toRows 512 g) (gat I) i (by rw [← accV_set (off (k + 1) c) (half k) inbV]; exact hi)))) $$ [Hacc Hrecv HO Ht1 Ht2]
  · isplitr; · iexact HI1
    isplitr; · iexact HI2
    isplitl [Hacc]
    · unfold accR
      rw [← accV_set (off (k + 1) c) (half k) inbS]; iexact Hacc
    isplitl [Hrecv]
    · unfold accR
      rw [← accV_set (off (k + 1) c) (half k) inbV]; iexact Hrecv
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The sum that a round of the reduction writes is the next round's table. -/
theorem sum_write (c : Dev nD) (k : Fin 5)
    (inbS : ∀ a, (![off (k + 1) c, 0] : Fin 2 → ℕ) a + (rowShape (half k)).size a ≤ S512x1024.size a)
    (inbV : ∀ a, (![slot k, 0] : Fin 2 → ℕ) a + (rowShape (half k)).size a ≤ S496x1024.size a)
    (pay : ((rowShape (half k)).Idx → F .bf16) → ((rowShape (half k)).Idx → F .bf16) → ((rowShape (half k)).Idx → F .bf16))
    (hpay : ∀ v w x, pay v w x = FloatOps.addf (v x) (w x)) :
    ∀ i ∈ rowsOf 512 (off (k + 1) c) (half k),
      (accV (off (k + 1) c) (half k) inbS).write (Elt F) (toRows 512 (A I k c))
        (pay ((accV (off (k + 1) c) (half k) inbS).read (Elt F) (toRows 512 (A I k c)))
          ((recvV (slot k) (half k) inbV).read (Elt F) (toRows 496 (landed I k c)))) Finset.univ i = toRows 512 (A I (k + 1) c) i :=
  acc_write _ _ _ _ _ _ fun x => by
    rw [hpay, A_succ, acc_read, recv_read]
    unfold landed
    rw [Nat.add_sub_cancel_left, Nat.add_comm (x 0).val]

/-- The addition of a landed band to the rows this device keeps. -/
theorem add_rs (c : Dev nD) (k : Fin 5) (N : ℕ) (hN : N = half k) {offS offV : Fin 2 → ℕ}
    (hS : offS = ![off (k + 1) c, 0]) (hV : offV = ![slot k, 0])
    {inbS : ∀ a, offS a + (rowShape N).size a ≤ S512x1024.size a} {inbV : ∀ a, offV a + (rowShape N).size a ≤ S496x1024.size a}
    (pay : ((rowShape N).Idx → F .bf16) → ((rowShape N).Idx → F .bf16) → ((rowShape N).Idx → F .bf16))
    (hpay : ∀ v w x, pay v w x = FloatOps.addf (v x) (w x))
    {l1 l3 : accM.view.LoadsAt (Rect.unit (s := S512x1024) offS (rowShape N).size inbS).toLoadRect}
    {l2 : recvM.view.LoadsAt (Rect.unit (s := S496x1024) offV (rowShape N).size inbV).toLoadRect} {x1 x2}
    {α : Type} {Q : α → sProp 𝕄} {kk : PUnit → Prog (TpuEff nD τ sig (Elt F) Λ₀ .tc) α} :
    iprop(accR c (off (k + 1) c) (half k) (A I k c) ∗ recvR c k (toRows 496 (landed I k c)))
      ⊢ iprop(((accR c (off (k + 1) c) (half k) (A I (k + 1) c) ∗ recvR c k (toRows 496 (landed I k c)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load accM (Rect.unit (s := S512x1024) offS (rowShape N).size inbS).toLoadRect l1) fun v : (rowShape N).Idx → Elt F .bf16 =>
                .op (.load recvM (Rect.unit (s := S496x1024) offV (rowShape N).size inbV).toLoadRect l2) fun w : (rowShape N).Idx → Elt F .bf16 =>
                .op (.load accM (Rect.unit (s := S512x1024) offS (rowShape N).size inbS).toLoadRect l3) fun _ =>
                .op (.store accM (Rect.unit (s := S512x1024) offS (rowShape N).size inbS) (pay v w) Finset.univ x1 x2) kk) Q) := by
  subst hN hS hV
  unfold accR recvR
  iintro ⟨Ha, Hr⟩ Hk
  iapply (wp_load_rect 𝒱₀ (c : Thread nD τ) none Set.univ (m := accM) (subset_of_eq (accV_set (off (k + 1) c) (half k) inbS))) $$ Ha
  iintro Ha
  iapply (wp_load_rect 𝒱₀ (c : Thread nD τ) none Set.univ (m := recvM) (subset_of_eq (recvV_set (slot k) (half k) inbV))) $$ Hr
  iintro Hr
  iapply (wp_load_rect 𝒱₀ (c : Thread nD τ) none Set.univ (m := accM) (subset_of_eq (accV_set (off (k + 1) c) (half k) inbS))) $$ Ha
  iintro Ha
  iapply (wp_store 𝒱₀ (c : Thread nD τ) none Set.univ (m := accM) (subset_of_eq (accV_set (off (k + 1) c) (half k) inbS))) $$ Ha
  iintro Ha
  iapply Hk
  isplitl [Ha]
  · iapply (Entails.of_eq (pointsTo_congr fun i hi => sum_write I c k inbS inbV pay hpay i hi))
    iexact Ha
  · iexact Hr

/-- What device `c` holds for transfer `j`: its places, its two duties, the credit for what it will receive. -/
def ends (c : Dev nD) (j : Fin 10) : sProp 𝕄 :=
  iprop(atPos ER (sendCell j c) 0 ∅ 0 ∗ atPos ER (recvCell j c) 0 ∅ 0 ∗ dutyTok ER (sendCell j c) 0 0
    ∗ dutyTok ER (recvCell j (partner j c)) 0 0 ∗ cred (tallyAt (recvCell j c) () (crN (half (stg j)))))
/-- The two counters of transfer `j` at zero. -/
def zeros (c : Dev nD) (j : Fin 10) : sProp 𝕄 := iprop(semVal (sendCell j c) 0 ∗ semVal (recvCell j c) 0)

theorem OR_rs (c : Dev nD) (k : Fin 5) : OR c (10 - k.val) = OR c (9 - k.val) + debtR c (rs k) := by
  match k with
  | 0 => rfl
  | 1 => rfl
  | 2 => rfl
  | 3 => rfl
  | 4 => rfl
theorem OR_ag (c : Dev nD) (k : Fin 5) : OR c (k.val + 1) = OR c k.val + debtR c (ag k) := by
  match k with
  | 0 => rfl
  | 1 => rfl
  | 2 => rfl
  | 3 => rfl
  | 4 => rfl

/-- A round of the reduction. -/
theorem rs_stage (c n : Dev nD) (k : Fin 5) (hn : n = peer k c) (N : ℕ) (hN : N = half k) {offS offV offK : Fin 2 → ℕ}
    (hS : offS = ![sendOff k c, 0]) (hV : offV = ![slot k, 0]) (hK : offK = ![off (k + 1) c, 0])
    {inbS : ∀ a, offS a + (rowShape N).size a ≤ S512x1024.size a} {inbV : ∀ a, offV a + (rowShape N).size a ≤ S496x1024.size a}
    {inbK : ∀ a, offK a + (rowShape N).size a ≤ S512x1024.size a}
    {sS sR : DmaSem sig} (hsS : sS = sendS (rs k)) (hsR : sR = recvS (rs k)) {h1 h2}
    {hsc : (recvSl N offV inbV h2).view.ref.isScScratch = false}
    {hsrc hsrc' hsrc'' : (accS N offS inbS h1).view.WordExact}
    {hdst hdst' hdst'' : (recvSl N offV inbV h2).view.WordExact}
    {hsem : DmaTarget.Typed .vmem (.dma sR) (.remote (Dev.tc n : Thread nD τ) (recvSl N offV inbV h2) (.dma sS) hsc)}
    (pay : ((rowShape N).Idx → F .bf16) → ((rowShape N).Idx → F .bf16) → ((rowShape N).Idx → F .bf16))
    (hpay : ∀ v w x, pay v w x = FloatOps.addf (v x) (w x))
    {l1 l3 : accM.view.LoadsAt (Rect.unit (s := S512x1024) offK (rowShape N).size inbK).toLoadRect}
    {l2 : recvM.view.LoadsAt (Rect.unit (s := S496x1024) offV (rowShape N).size inbV).toLoadRect} {x1 x2}
    {α : Type} {Q : α → sProp 𝕄} {kk : PUnit → Prog (TpuEff nD τ sig (Elt F) Λ₀ .tc) α} :
    iprop(records I K ∗ levAts L lv ∗ accR c (off k c) (2 * half k) (A I k c) ∗ (∃ f, recvR (F := F) (peer k c) k f) ∗ ow c (OR c (10 - k.val))
        ∗ ends c (rs k))
      ⊢ iprop(((accR c (off (k + 1) c) (half k) (A I (k + 1) c) ∗ (∃ f, recvR (F := F) c k f)
              ∗ (∃ g, accR (F := F) (peer k c) (off (k + 1) c) (half k) g) ∗ ow c (OR c (9 - k.val)) ∗ zeros c (rs k))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (accS N offS inbS h1)
                (.remote (Dev.tc n : Thread nD τ) (recvSl N offV inbV h2) (.dma sS) hsc)
                (.dma sR) hsrc hdst hsem) fun _ =>
                .op (.waitDma2 sS (recvSl N offV inbV h2) (accS N offS inbS h1) hdst' hsrc') fun _ =>
                .op (.waitDma2 sR (accS N offS inbS h1) (recvSl N offV inbV h2) hsrc'' hdst'') fun _ =>
                .op (.load accM (Rect.unit (s := S512x1024) offK (rowShape N).size inbK).toLoadRect l1) fun v : (rowShape N).Idx → Elt F .bf16 =>
                .op (.load recvM (Rect.unit (s := S496x1024) offV (rowShape N).size inbV).toLoadRect l2) fun w : (rowShape N).Idx → Elt F .bf16 =>
                .op (.load accM (Rect.unit (s := S512x1024) offK (rowShape N).size inbK).toLoadRect l3) fun _ =>
                .op (.store accM (Rect.unit (s := S512x1024) offK (rowShape N).size inbK) (pay v w) Finset.univ x1 x2) kk) Q) := by
  unfold ends partner
  rw [stg_rs]
  iintro ⟨#HR, #Hlev, Ha, Hf, HO, Hp1, Hp2, Ht1, Ht2, Hc2⟩ Hk
  ihave Ha := (show accR c (off k c) (2 * half k) (A I k c) ⊢ iprop(accR c (off (k + 1) c) (half k) (A I k c) ∗ accR c (sendOff k c) (half k) (A I k c)) from by
    unfold accR
    rw [sendOff_eq, rowsOf_halves]
    exact (pointsTo_union (rowsOf_halves_disjoint k c)).1) $$ Ha
  icases Ha with ⟨Ha, Hs⟩
  iapply (send_rs I K c n k hn N hN hS hV hsS hsR (OR c (9 - k.val)) (OR_rs c k)) $$ [Hs Hf HO Ht1 Ht2]
  · isplitr; · iexact HR
    isplitl [Hs]; · iexact Hs
    isplitl [Hf]; · iexact Hf
    isplitl [HO]; · iexact HO
    isplitl [Ht1]; · iexact Ht1
    iexact Ht2
  iintro ⟨Hc1, HO⟩
  iapply (wait_own I K c (.inr (.inl (rs k))) (sm := .dma sS) (by rw [hsS]; rfl) (wpE_waitDma2_eq 𝒱₀ (c : Thread nD τ) none Set.univ)
    (by simp only [amt, stg_rs]; rw [← hN]) (OR c (9 - k.val))
    (mayWait_OR c _ (9 - k.val) (by omega) (by rw [show kind (osem (.inr (.inl (rs k)))) = _ from kind_csem (.inr (.inr (.inl (rs k))))]; simp only [lvOf]; omega))) $$ [Hc1 HO Hp1]
  · isplitr; · iexact HR
    isplitr; · iexact Hlev
    isplitl [Hc1]; · simp only [amt, stg_rs]; iexact Hc1
    isplitl [HO]; · iexact HO
    iexact Hp1
  iintro ⟨HO, Hz1, -⟩
  iapply (wait_own I K c (.inr (.inr (rs k))) (sm := .dma sR) (by rw [hsR]; rfl) (wpE_waitDma2_eq 𝒱₀ (c : Thread nD τ) none Set.univ)
    (by simp only [amt, stg_rs]; rw [← hN]) (OR c (9 - k.val))
    (mayWait_OR c _ (9 - k.val) (by omega) (by rw [show kind (osem (.inr (.inr (rs k)))) = _ from kind_csem (.inr (.inr (.inr (rs k))))]; simp only [lvOf, rs]; omega))) $$ [Hc2 HO Hp2]
  · isplitr; · iexact HR
    isplitr; · iexact Hlev
    isplitl [Hc2]; · simp only [amt, stg_rs]; iexact Hc2
    isplitl [HO]; · iexact HO
    iexact Hp2
  iintro ⟨HO, Hz2, Hpay⟩
  simp only [payOf, recvPay, if_pos (rs_lt k), stg_rs]
  icases Hpay with ⟨Hr, Hb⟩
  iapply (add_rs I c k N hN hK hV pay hpay) $$ [Ha Hr]
  · isplitl [Ha]; · iexact Ha
    iexact Hr
  iintro ⟨Ha, Hr⟩
  iapply Hk
  isplitl [Ha]; · iexact Ha
  isplitl [Hr]; · iexists _; iexact Hr
  isplitl [Hb]; · iexists _; iexact Hb
  isplitl [HO]; · iexact HO
  unfold zeros
  isplitl [Hz1]; · iexact Hz1
  iexact Hz2

/-- A round of the gathering. -/
theorem ag_stage (c n : Dev nD) (k : Fin 5) (hn : n = peer k c) (N : ℕ) (hN : N = half k) {offS : Fin 2 → ℕ}
    (hS : offS = ![off (k + 1) c, 0])
    {inbS : ∀ a, offS a + (rowShape N).size a ≤ S512x1024.size a}
    {sS sR : DmaSem sig} (hsS : sS = sendS (ag k)) (hsR : sR = recvS (ag k)) {h1}
    {hsc : (accS N offS inbS h1).view.ref.isScScratch = false}
    {hsrc hsrc' hsrc'' hdst hdst' hdst'' : (accS N offS inbS h1).view.WordExact}
    {hsem : DmaTarget.Typed .vmem (.dma sR) (.remote (Dev.tc n : Thread nD τ) (accS N offS inbS h1) (.dma sS) hsc)}
    {α : Type} {Q : α → sProp 𝕄} {kk : PUnit → Prog (TpuEff nD τ sig (Elt F) Λ₀ .tc) α} :
    iprop(records I K ∗ levAts L lv ∗ accR c (off (k + 1) c) (half k) (gat I) ∗ (∃ g, accR (F := F) (peer k c) (off (k + 1) c) (half k) g)
        ∗ ow c (OR c (k.val + 1)) ∗ ends c (ag k))
      ⊢ iprop(((accR c (off k c) (2 * half k) (gat I) ∗ ow c (OR c k.val) ∗ zeros c (ag k))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (accS N offS inbS h1)
                (.remote (Dev.tc n : Thread nD τ) (accS N offS inbS h1) (.dma sS) hsc)
                (.dma sR) hsrc hdst hsem) fun _ =>
                .op (.waitDma2 sS (accS N offS inbS h1) (accS N offS inbS h1) hdst' hsrc') fun _ =>
                .op (.waitDma2 sR (accS N offS inbS h1) (accS N offS inbS h1) hsrc'' hdst'') kk) Q) := by
  unfold ends partner
  rw [stg_ag]
  iintro ⟨#HR, #Hlev, Ha, Hf, HO, Hp1, Hp2, Ht1, Ht2, Hc2⟩ Hk
  iapply (send_ag I K c n k hn N hN hS hS hsS hsR (OR c k.val) (OR_ag c k)) $$ [Ha Hf HO Ht1 Ht2]
  · isplitr; · iexact HR
    isplitl [Ha]; · iexact Ha
    isplitl [Hf]; · iexact Hf
    isplitl [HO]; · iexact HO
    isplitl [Ht1]; · iexact Ht1
    iexact Ht2
  iintro ⟨Hc1, HO⟩
  iapply (wait_own I K c (.inr (.inl (ag k))) (sm := .dma sS) (by rw [hsS]; rfl) (wpE_waitDma2_eq 𝒱₀ (c : Thread nD τ) none Set.univ)
    (by simp only [amt, stg_ag]; rw [← hN]) (OR c k.val)
    (mayWait_OR c _ k.val (by omega) (by rw [show kind (osem (.inr (.inl (ag k)))) = _ from kind_csem (.inr (.inr (.inl (ag k))))]; simp only [lvOf]; omega))) $$ [Hc1 HO Hp1]
  · isplitr; · iexact HR
    isplitr; · iexact Hlev
    isplitl [Hc1]; · simp only [amt, stg_ag]; iexact Hc1
    isplitl [HO]; · iexact HO
    iexact Hp1
  iintro ⟨HO, Hz1, Hpay1⟩
  simp only [payOf, sendPay, if_neg (ag_ge k), stg_ag]
  iapply (wait_own I K c (.inr (.inr (ag k))) (sm := .dma sR) (by rw [hsR]; rfl) (wpE_waitDma2_eq 𝒱₀ (c : Thread nD τ) none Set.univ)
    (by simp only [amt, stg_ag]; rw [← hN]) (OR c k.val)
    (mayWait_OR c _ k.val (by omega) (by rw [show kind (osem (.inr (.inr (ag k)))) = _ from kind_csem (.inr (.inr (.inr (ag k))))]; simp only [lvOf, ag]; omega))) $$ [Hc2 HO Hp2]
  · isplitr; · iexact HR
    isplitr; · iexact Hlev
    isplitl [Hc2]; · simp only [amt, stg_ag]; iexact Hc2
    isplitl [HO]; · iexact HO
    iexact Hp2
  iintro ⟨HO, Hz2, Hpay2⟩
  simp only [payOf, recvPay, if_neg (ag_ge k), stg_ag]
  iapply Hk
  isplitl [Hpay1 Hpay2]
  · iapply (show iprop(accR c (off (k + 1) c) (half k) (gat I) ∗ accR c (off (k + 1) (peer k c)) (half k) (gat I)) ⊢ accR c (off k c) (2 * half k) (gat I) from by
      unfold accR
      rw [rowsOf_halves]
      exact (pointsTo_union (rowsOf_halves_disjoint k c)).2)
    isplitl [Hpay1]; · iexact Hpay1
    iexact Hpay2
  isplitl [HO]; · iexact HO
  unfold zeros
  isplitl [Hz1]; · iexact Hz1
  iexact Hz2

end Cert.KernelIdealProof
-- ==== Proof.Attn.lean ====
module
public import proofs.«01_k».proof.Proof.Stages

/-! # The meeting at the start, the copies of keys and values, and one head -/

@[expose] public section
noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Inp F) (K : Dev nD × CI → ℕ)

theorem OB_step (c : Dev nD) (k : Fin 5) : OB c (5 - k.val) = OB c (4 - k.val) + tallyAt (barCell (peer k c)) () 1 := by
  match k with
  | 0 => rfl
  | 1 => rfl
  | 2 => rfl
  | 3 => rfl
  | 4 => rfl

/-- A signal to a partner: this device's band for that round goes with it. -/
theorem signal_bar (c n : Dev nD) (k : Fin 5) (hn : n = peer k c) {m : ℤ} (hm : m = 1)
    {α : Type} {Q : α → sProp 𝕄} {kk : PUnit → Prog (TpuEff nD τ sig (Elt F) Λ₀ .tc) α} :
    iprop(records I K ∗ ow c (OB c (5 - k.val)) ∗ dutyTok ER (barCell (peer k c)) 0 k ∗ (∃ f, recvR (F := F) c k f))
      ⊢ iprop((ow c (OB c (4 - k.val)) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) barS m.toNat) kk) Q) := by
  subst hn hm
  unfold ow
  iintro ⟨#HR, ⟨%W, HO⟩, Ht, Hf⟩ Hk
  ihave #HI := (inv_at I K (peer k c) (.inl ())) $$ HR
  ihave #Hr := (reached_at I K (peer k c) (.inl ())) $$ HR
  iapply (Rounds.wp_signal 𝒱₀ ER (sched I) (c : Thread nD τ) none (dst := (peer k c : Thread nD τ)) (κ := K (peer k c, .inl ()))
      (d := k) (r := 0) (by rw [show (sched I).duties (barCell (peer k c)) 0 = Finset.univ from duties_k I (peer k c) (.inl ())]; exact Finset.mem_univ _)
      (amount_k I (peer k c) (.inl ()) k) () (OB c (4 - k.val)) (OB_step c k)) $$ [HO Ht Hf]
  · isplitr; · iexact HI
    isplitl [HO]; · iexact HO
    isplitl [Ht]; · iexact Ht
    isplitl [Hf]
    · rw [show (sched I).payload (barCell (peer k c)) 0 k = _ from payload_k I (peer k c) (.inl ()) k]
      simp only [payOf]
      unfold barPay
      rw [peer_peer]
      iexact Hf
    iexact Hr
  iintro HO
  iapply Hk
  iexists W; iexact HO

/-- The wait for every partner: each partner's band for its round comes with it. -/
theorem wait_bar (c : Dev nD) {m : ℤ} (hm : m = 5)
    {α : Type} {Q : α → sProp 𝕄} {kk : PUnit → Prog (TpuEff nD τ sig (Elt F) Λ₀ .tc) α} :
    iprop(records I K ∗ levAts L lv ∗ cred (tallyAt (barCell c) () 5) ∗ ow c (OR c 10) ∗ atPos ER (barCell c) 0 ∅ 0)
      ⊢ iprop(((ow c (OR c 10) ∗ semVal (barCell c) 0 ∗ bigSep Finset.univ fun k : Fin 5 => iprop(∃ f, recvR (F := F) (peer k c) k f))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS m.toNat) kk) Q) := by
  subst hm
  unfold ow
  iintro ⟨#HR, #Hlev, Hc, ⟨%W, HO⟩, Hat⟩ Hk
  ihave #HI := (inv_at I K c (.inl ())) $$ HR
  iapply (Rounds.wp_wait_rest_token 𝒱₀ ER (sched I) (c : Thread nD τ) none (κ := K (c, .inl ())) (sm := .reg barS)
      (wpE_semWait_eq 𝒱₀ (c : Thread nD τ) none Set.univ) (Set.mem_univ _) () (O := OR c 10) (W := W) (R := 0) (m := 0) (T := ∅)
      (by rw [Nat.zero_add]; exact (expect_bar I c).symm)) $$ [Hc HO Hat]
  · isplitr; · iexact HI
    isplitl [Hc]; · iexact Hc
    isplitl [HO]; · iexact HO
    isplitr
    · iapply (mayWait_OR c (.reg barS) 10 le_rfl (by rw [show kind (SemLoc.reg barS) = _ from kind_csem (.inl ())]; decide)); iexact Hlev
    iexact Hat
  iintro ⟨HO, Hat, -, Hpay⟩
  ihave Hp := (show bigSep ((sched I).duties (barCell c) 0 \ ∅) (fun d => (sched I).payload (barCell c) 0 d) ⊢ bigSep Finset.univ fun k => barPay (F := F) c k
    from Entails.of_eq (rest_bar I c)) $$ Hpay
  imod (Rounds.cell_close ER (sched I) (Set.mem_univ (K (c, .inl ()))) (fun h => h) (R := 0 + 1) (duties_later I (barCell c))) $$ [Hat] with Hz
  · isplitr; · iexact HI
    iexact Hat
  iapply Hk
  isplitl [HO]; · iexists _; iexact HO
  isplitl [Hz]; · iexact Hz
  unfold barPay
  iexact Hp

/-- The copy of the keys. -/
theorem copy_k (c : Dev nD) {q : DmaSem sig} (hq : q = cpyS 0) {x1 x2 x3}
    {α : Type} {Q : α → sProp 𝕄} {kk : PUnit → Prog (TpuEff nD τ sig (Elt F) Λ₀ .tc) α} :
    iprop(records I K ∗ kSrc I c ∗ (∃ f, (c : Thread nD τ).loc cc0_scratch0 ↦{fullShare} f) ∗ dutyTok ER (cpyCell 0 c) 0 0)
      ⊢ iprop((cred (tallyAt (cpyCell 0 c) () crK)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (kArr c) (.here (Memref.whole cc0_scratch0)) (.dma q) x1 x2 x3) kk) Q) := by
  subst hq
  unfold kSrc
  iintro ⟨#HR, Hs, ⟨%f, Hd⟩, Ht⟩ Hk
  ihave #HI := (inv_at I K c (.inr (.inl 0))) $$ HR
  ihave #Hr := (reached_at I K c (.inr (.inl 0))) $$ HR
  iapply (Rounds.wp_copy_pointsTo 𝒱₀ ER (sched I) (c : Thread nD τ) none (κ := K (c, .inr (.inl 0))) (r := 0) (d := 0) (fd := f) (fs := I.k c) (q := fullShare.right)
    (by rw [show (sched I).duties _ 0 = dutySet _ from duties_k I c (.inr (.inl 0))]; exact Finset.mem_singleton_self _)
    () crK rfl (amount_k I c (.inr (.inl 0)) 0)
    (by
      rw [show (sched I).payload _ 0 0 = _ from payload_k I c (.inr (.inl 0)) 0]
      simp only [payOf, cpyPay, if_pos, kSrc]
      rw [View.write_whole_univ, View.set_whole]
      exact BI.Entails.refl _)) $$ [Hs Hd Ht]
  · isplitr; · iexact HI
    isplitl [Hs]; · iexact Hs
    isplitl [Hd]; · rw [View.set_whole]; iexact Hd
    isplitl [Ht]; · iexact Ht
    iexact Hr
  iexact Hk

/-- The copy of the values. -/
theorem copy_v (c : Dev nD) {q : DmaSem sig} (hq : q = cpyS 1) {x1 x2 x3}
    {α : Type} {Q : α → sProp 𝕄} {kk : PUnit → Prog (TpuEff nD τ sig (Elt F) Λ₀ .tc) α} :
    iprop(records I K ∗ vSrc I c ∗ (∃ f, (c : Thread nD τ).loc cc0_scratch1 ↦{fullShare} f) ∗ dutyTok ER (cpyCell 1 c) 0 0)
      ⊢ iprop((cred (tallyAt (cpyCell 1 c) () crK)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma (vArr c) (.here (Memref.whole cc0_scratch1)) (.dma q) x1 x2 x3) kk) Q) := by
  subst hq
  unfold vSrc
  iintro ⟨#HR, Hs, ⟨%f, Hd⟩, Ht⟩ Hk
  ihave #HI := (inv_at I K c (.inr (.inl 1))) $$ HR
  ihave #Hr := (reached_at I K c (.inr (.inl 1))) $$ HR
  iapply (Rounds.wp_copy_pointsTo 𝒱₀ ER (sched I) (c : Thread nD τ) none (κ := K (c, .inr (.inl 1))) (r := 0) (d := 0) (fd := f) (fs := I.v c) (q := fullShare.right)
    (by rw [show (sched I).duties _ 0 = dutySet _ from duties_k I c (.inr (.inl 1))]; exact Finset.mem_singleton_self _)
    () crK rfl (amount_k I c (.inr (.inl 1)) 0)
    (by
      rw [show (sched I).payload _ 0 0 = _ from payload_k I c (.inr (.inl 1)) 0]
      simp only [payOf, cpyPay, if_neg (show ¬ (1 : Fin 2) = 0 by decide), vSrc]
      rw [View.write_whole_univ, View.set_whole]
      exact BI.Entails.refl _)) $$ [Hs Hd Ht]
  · isplitr; · iexact HI
    isplitl [Hs]; · iexact Hs
    isplitl [Hd]; · rw [View.set_whole]; iexact Hd
    isplitl [Ht]; · iexact Ht
    iexact Hr
  iexact Hk

/-- The attention buffer with its first `n` heads done. -/
def attnTo (c : Dev nD) (n : ℕ) : sProp 𝕄 :=
  iprop(∃ f, ⌜∀ i : S512x1024.Idx, (i 1).val < 128 * n → f i = attnB I c i⌝ ∗ (c : Thread nD τ).loc cc0_scratch2 ↦{fullShare} f)

/-- One head's columns of the attention buffer. -/
abbrev colV (o : Fin 2 → ℕ) (inb : ∀ a, o a + S512x128.size a ≤ S512x1024.size a) : View sig .tc .vmem S512x128 .bf16 :=
  (View.whole cc0_scratch2).slice (Rect.unit (s := S512x1024) o S512x128.size inb)

theorem head_write (c : Dev nD) (h : Fin 8) (inb : ∀ a, (![0, 128 * h.val] : Fin 2 → ℕ) a + S512x128.size a ≤ S512x1024.size a)
    (f : (cc0_scratch2 : Ref sig .tc).ty.Contents (Elt F)) (hf : ∀ i : S512x1024.Idx, (i 1).val < 128 * h.val → f i = attnB I c i) :
    ∀ i : S512x1024.Idx, (i 1).val < 128 * (h.val + 1) →
      (colV ![0, 128 * h.val] inb).write (Elt F) f (headOut I h c) Finset.univ i = attnB I c i := by
  intro i hi
  by_cases hm : i ∈ (colV ![0, 128 * h.val] inb).setOn Finset.univ
  · obtain ⟨x, -, rfl⟩ := Finset.mem_map.mp hm
    rw [View.write_emb_of_mem (h := Finset.mem_univ x)]
    have h0 : ((colV ![0, 128 * h.val] inb).emb x 0).val = (x 0).val :=
      (ValueKit.view_emb_slice_whole_unit_val cc0_scratch2 _ _ inb x 0).trans (Nat.zero_add _)
    have h1 : ((colV ![0, 128 * h.val] inb).emb x 1).val = 128 * h.val + (x 1).val :=
      ValueKit.view_emb_slice_whole_unit_val cc0_scratch2 _ _ inb x 1
    have x0 : (x 0).val < 512 := (x 0).isLt
    have x1 : (x 1).val < 128 := (x 1).isLt
    have hh := h.isLt
    show headOut I h c x = headOut I ⟨((colV ![0, 128 * h.val] inb).emb x 1).val / 128 % 8, _⟩ c
      (idx128 ((colV ![0, 128 * h.val] inb).emb x 0).val ((colV ![0, 128 * h.val] inb).emb x 1).val)
    simp only [h0, h1]
    have e1 : (⟨(128 * h.val + (x 1).val) / 128 % 8, Nat.mod_lt _ (by decide)⟩ : Fin 8) = h := Fin.ext (by show _ / 128 % 8 = _; omega)
    have e2 : idx128 (x 0).val (128 * h.val + (x 1).val) = x := by
      funext a
      match a with
      | ⟨0, _⟩ => exact Fin.ext (Nat.mod_eq_of_lt x0)
      | ⟨1, _⟩ => exact Fin.ext (show (128 * h.val + (x 1).val) % 128 = (x 1).val by omega)
    rw [e1, e2]
  · rw [View.write_of_not_mem (h := hm)]
    refine hf i ?_
    by_contra hc
    refine hm ?_
    have i0 : (i 0).val < 512 := (i 0).isLt
    refine Finset.mem_map.mpr ⟨idx128 (i 0).val (i 1).val, Finset.mem_univ _, ?_⟩
    funext a
    match a with
    | ⟨0, _⟩ =>
      refine Fin.ext ?_
      refine (ValueKit.view_emb_slice_whole_unit_val cc0_scratch2 _ _ inb _ 0).trans ?_
      show 0 + (i 0).val % 512 = (i 0).val
      omega
    | ⟨1, _⟩ =>
      refine Fin.ext ?_
      refine (ValueKit.view_emb_slice_whole_unit_val cc0_scratch2 _ _ inb _ 1).trans ?_
      show 128 * h.val + (i 1).val % 128 = (i 1).val
      omega

/-- One head: its keys and values are loaded and its columns written. -/
theorem head_step (c : Dev nD) (h : Fin 8) {offK : Fin 3 → ℕ} {offA : Fin 2 → ℕ} (hK : offK = ![0, h.val, 0]) (hA : offA = ![0, 128 * h.val])
    {inbK inbK' : ∀ a, offK a + S2048x1x128.size a ≤ S2048x8x128.size a} {inbA : ∀ a, offA a + S512x128.size a ≤ S512x1024.size a}
    (pay : (S2048x1x128.Idx → F .f32) → (S2048x1x128.Idx → F .f32) → (S512x128.Idx → F .bf16))
    (hpay : pay (krows h (kbuf I c)) (krows h (vbuf I c)) = headOut I h c)
    {l1 : (Memref.whole cc0_scratch0 : Memref sig .tc .vmem S2048x8x128 .f32).view.LoadsAt (Rect.unit (s := S2048x8x128) offK S2048x1x128.size inbK).toLoadRect}
    {l2 : (Memref.whole cc0_scratch1 : Memref sig .tc .vmem S2048x8x128 .f32).view.LoadsAt (Rect.unit (s := S2048x8x128) offK S2048x1x128.size inbK').toLoadRect}
    {l3 : (Memref.whole cc0_scratch2 : Memref sig .tc .vmem S512x1024 .bf16).view.LoadsAt (Rect.unit (s := S512x1024) offA S512x128.size inbA).toLoadRect}
    {x1 x2}
    {α : Type} {Q : α → sProp 𝕄} {kk : PUnit → Prog (TpuEff nD τ sig (Elt F) Λ₀ .tc) α} :
    iprop(((c : Thread nD τ).loc cc0_scratch0 ↦{fullShare} kbuf I c) ∗ ((c : Thread nD τ).loc cc0_scratch1 ↦{fullShare} vbuf I c) ∗ attnTo I c h.val)
      ⊢ iprop(((((c : Thread nD τ).loc cc0_scratch0 ↦{fullShare} kbuf I c) ∗ ((c : Thread nD τ).loc cc0_scratch1 ↦{fullShare} vbuf I c)
              ∗ attnTo I c (h.val + 1))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.load (Memref.whole cc0_scratch0) (Rect.unit (s := S2048x8x128) offK S2048x1x128.size inbK).toLoadRect l1) fun v : S2048x1x128.Idx → Elt F .f32 =>
                .op (.load (Memref.whole cc0_scratch1) (Rect.unit (s := S2048x8x128) offK S2048x1x128.size inbK').toLoadRect l2) fun w : S2048x1x128.Idx → Elt F .f32 =>
                .op (.load (Memref.whole cc0_scratch2) (Rect.unit (s := S512x1024) offA S512x128.size inbA).toLoadRect l3) fun _ =>
                .op (.store (Memref.whole cc0_scratch2) (Rect.unit (s := S512x1024) offA S512x128.size inbA) (pay v w) Finset.univ x1 x2) kk) Q) := by
  subst hK hA
  unfold attnTo
  iintro ⟨Hk, Hv, ⟨%f, %hf, Ha⟩⟩ Hc
  iapply (wp_load_rect 𝒱₀ (c : Thread nD τ) none Set.univ (m := Memref.whole cc0_scratch0) (r := Rect.unit (s := S2048x8x128) ![0, h.val, 0] S2048x1x128.size inbK) (Finset.subset_univ _)) $$ Hk
  iintro Hk
  iapply (wp_load_rect 𝒱₀ (c : Thread nD τ) none Set.univ (m := Memref.whole cc0_scratch1) (r := Rect.unit (s := S2048x8x128) ![0, h.val, 0] S2048x1x128.size inbK') (Finset.subset_univ _)) $$ Hv
  iintro Hv
  iapply (wp_load_rect 𝒱₀ (c : Thread nD τ) none Set.univ (m := Memref.whole cc0_scratch2) (r := Rect.unit (s := S512x1024) ![0, 128 * h.val] S512x128.size inbA) (Finset.subset_univ _)) $$ Ha
  iintro Ha
  iapply (wp_store 𝒱₀ (c : Thread nD τ) none Set.univ (m := Memref.whole cc0_scratch2) (r := Rect.unit (s := S512x1024) ![0, 128 * h.val] S512x128.size inbA) (Finset.subset_univ _)) $$ Ha
  iintro Ha
  iapply Hc
  isplitl [Hk]; · iexact Hk
  isplitl [Hv]; · iexact Hv
  iexists ((colV ![0, 128 * h.val] inbA).write (Elt F) f (headOut I h c) Finset.univ)
  isplitr
  · ipureintro; exact head_write I c h inbA f hf
  rw [← hpay]
  iexact Ha

end Cert.KernelIdealProof
-- ==== Proof.Body.lean ====
module
public import proofs.«01_k».proof.Proof.Attn

/-! # One device's run of the body

From the staged blocks, the arrays of keys and values, the scratch buffers and the device's places in the protocol the body
ends with the output written, every buffer returned and every counter at zero. -/

@[expose] public section
noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Inp F) (K : Dev nD × CI → ℕ)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Some contents of a buffer of device `c`. -/
def some_ (c : Dev nD) (b : Ref sig .tc) : sProp 𝕄 := iprop(∃ f, (c : Thread nD τ).loc b ↦{fullShare} f)

theorem bands_some (c : Dev nD) (f : (cc0_scratch4 : Ref sig .tc).ty.Contents (Elt F)) :
    (bigSep Finset.univ (fun k : Fin 5 => ((c : Thread nD τ).loc cc0_scratch4 ↦[rowsOf 496 (slot k) (half k)]{fullShare} f : sProp 𝕄)) : sProp 𝕄)
      ⊢ bigSep Finset.univ fun k : Fin 5 => iprop(∃ f, recvR (F := F) c k f) :=
  bigSep_mono fun k _ => exists_intro (Φ := fun f => (recvR (F := F) c k f : sProp 𝕄)) f

/-- The receiving buffer is its five bands. -/
theorem recv_split (c : Dev nD) : (some_ (F := F) c cc0_scratch4 : sProp 𝕄) ⊢ bigSep Finset.univ fun k : Fin 5 => iprop(∃ f, recvR (F := F) c k f) := by
  unfold some_
  iintro ⟨%f, H⟩
  rw [show (Finset.univ : Finset (Idx ((c : Thread nD τ).loc cc0_scratch4))) = _ from rowsOf_slots,
    pointsTo_biUnion _ _ (fun k _ k' _ h => rowsOf_disjoint (slots_sep k k' h))]
  exact bands_some c f
theorem recv_join (c : Dev nD) : (bigSep Finset.univ fun k : Fin 5 => iprop(∃ f, recvR (F := F) c k f)) ⊢ (some_ (F := F) c cc0_scratch4 : sProp 𝕄) := by
  unfold some_
  rw [show (Finset.univ : Finset (Idx ((c : Thread nD τ).loc cc0_scratch4))) = _ from rowsOf_slots]
  iintro H
  ihave H := (bigSep_exists_pi Finset.univ (fun (k : Fin 5) f => (recvR (F := F) c k f : sProp 𝕄))) $$ H
  icases H with ⟨%fs, H⟩
  unfold recvR
  ihave H := (pointsTo_biUnion_join (q := fullShare) (ℓ := (c : Thread nD τ).loc cc0_scratch4) (Finset.univ : Finset (Fin 5)) (fun k => rowsOf 496 (slot k) (half k)) fs (fs 0)
    (fun k _ k' _ h => rowsOf_disjoint (slots_sep k k' h))) $$ H
  icases H with ⟨%g, -, H⟩
  iexists g; iexact H

/-- The accumulator whole, as the rows of the first round. -/
theorem acc_whole (c : Dev nD) (g : Tab F) : (((c : Thread nD τ).loc cc0_scratch3 ↦{fullShare} toRows 512 g) : sProp 𝕄) = accR c (off 0 c) (2 * half 0) g := by
  unfold accR
  rw [show off 0 c = 0 from rfl, show 2 * half 0 = 512 by decide, rowsOf_full]
/-- What one round keeps is what the next starts from. -/
theorem acc_next (c : Dev nD) (k : Fin 4) (g : Tab F) : (accR c (off (k.val + 1) c) (half k.val) g : sProp 𝕄) = accR c (off (k.val + 1) c) (2 * half (k.val + 1)) g := by
  rw [half_succ]
/-- At the end of the reduction a device's rows are those of the gathered result. -/
theorem acc_gat (c : Dev nD) : (accR c (off 5 c) (half 4) (A I 5 c) : sProp 𝕄) = accR c (off 5 c) (half 4) (gat I) := by
  unfold accR
  exact pointsTo_congr fun i hi => by
    rw [mem_rowsOf] at hi
    exact gat_own I c _ _ hi

/-- A device's places in the meeting at the start. -/
def meet (c : Dev nD) : sProp 𝕄 :=
  iprop(atPos ER (barCell c) 0 ∅ 0 ∗ cred (tallyAt (barCell c) () 5) ∗ bigSep Finset.univ fun k : Fin 5 => dutyTok ER (barCell (peer k c)) 0 k)
/-- A device's places in one copy. -/
def cpy (c : Dev nD) (i : Fin 2) : sProp 𝕄 := iprop(atPos ER (cpyCell i c) 0 ∅ 0 ∗ dutyTok ER (cpyCell i c) 0 0)

/-- What the body starts with. -/
def bodyIn (c : Dev nD) : sProp 𝕄 :=
  iprop(records I K ∗ levAts L lv ∗ ow c (O₀ c)
    ∗ ((c : Thread nD τ).loc cc0_stg0_0 ↦{fullShare} I.x c) ∗ ((c : Thread nD τ).loc cc0_stg1_0 ↦{fullShare} I.wq c)
    ∗ ((c : Thread nD τ).loc cc0_stg2_0 ↦{fullShare} I.wo c) ∗ some_ c cc0_stg3_0
    ∗ some_ c cc0_scratch0 ∗ some_ c cc0_scratch1 ∗ some_ c cc0_scratch2 ∗ some_ c cc0_scratch3 ∗ some_ c cc0_scratch4
    ∗ kSrc I c ∗ vSrc I c ∗ meet c ∗ cpy c 0 ∗ cpy c 1 ∗ bigSep Finset.univ fun j : Fin 10 => ends c j)
/-- What it ends with. -/
def bodyOut (c : Dev nD) : sProp 𝕄 :=
  iprop(ow c 0
    ∗ ((c : Thread nD τ).loc cc0_stg0_0 ↦{fullShare} I.x c) ∗ ((c : Thread nD τ).loc cc0_stg1_0 ↦{fullShare} I.wq c)
    ∗ ((c : Thread nD τ).loc cc0_stg2_0 ↦{fullShare} I.wo c) ∗ ((c : Thread nD τ).loc cc0_stg3_0 ↦{fullShare} outAt I)
    ∗ some_ c cc0_scratch0 ∗ some_ c cc0_scratch1 ∗ some_ c cc0_scratch2 ∗ some_ c cc0_scratch3 ∗ some_ c cc0_scratch4
    ∗ kSrc I c ∗ vSrc I c ∗ semVal (barCell c) 0 ∗ semVal (cpyCell 0 c) 0 ∗ semVal (cpyCell 1 c) 0
    ∗ bigSep Finset.univ fun j : Fin 10 => zeros (F := F) c j)

theorem attn_start (c : Dev nD) : (some_ (F := F) c cc0_scratch2 : sProp 𝕄) ⊢ attnTo I c 0 := by
  unfold some_ attnTo
  iintro ⟨%f, H⟩
  iexists f
  isplitr
  · ipureintro; intro i hi; omega
  iexact H
theorem pay_k (c : Dev nD) : (payOf I c 0 (some (.inr (.inl 0))) : sProp 𝕄) = iprop(((c : Thread nD τ).loc cc0_scratch0 ↦{fullShare} kbuf I c) ∗ kSrc I c) := by
  simp only [payOf, cpyPay, if_true]
theorem pay_v (c : Dev nD) : (payOf I c 0 (some (.inr (.inl 1))) : sProp 𝕄) = iprop(((c : Thread nD τ).loc cc0_scratch1 ↦{fullShare} vbuf I c) ∗ vSrc I c) := by
  simp only [payOf, cpyPay]
  exact if_neg (by decide)
theorem attn_end (c : Dev nD) : (attnTo I c ((7 : Fin 8).val + 1) : sProp 𝕄) ⊢ (c : Thread nD τ).loc cc0_scratch2 ↦{fullShare} attnB I c := by
  unfold attnTo
  rw [show (7 : Fin 8).val + 1 = 8 from rfl]
  iintro ⟨%f, %hf, H⟩
  have e : f = attnB I c := funext fun i => hf i (by have : (i 1).val < 1024 := (i 1).isLt; omega)
  subst e
  iexact H

/-- A load of a buffer whose contents read as `v`. -/
theorem load_to (c : Dev nD) {cs : CoreSpace} {s : Shape} {e : EltTy} (m : Memref sig .tc cs s e) {o : Fin s.rank → ℕ}
    {inb : ∀ a, o a + s.size a ≤ s.size a} {f : Buf (Elt F) ((m.access (Rect.unit o s.size inb)).loc (c : Thread nD τ))} {v : s.Idx → Elt F e}
    (hv : (m.access (Rect.unit o s.size inb)).read (Elt F) f = v)
    {l : m.view.LoadsAt (Rect.unit o s.size inb).toLoadRect}
    {α : Type} {Q : α → sProp 𝕄} {kk : (s.Idx → Elt F e) → Prog (TpuEff nD τ sig (Elt F) Λ₀ .tc) α} :
    ((m.access (Rect.unit o s.size inb)).loc (c : Thread nD τ) ↦{fullShare} f)
      ⊢ iprop((((m.access (Rect.unit o s.size inb)).loc (c : Thread nD τ) ↦{fullShare} f) -∗ wp frame (wpE (defs₀ (F := F)) 𝒱₀ (c : Thread nD τ) none) Set.univ (kk v) Q)
          -∗ wp frame (wpE (defs₀ (F := F)) 𝒱₀ (c : Thread nD τ) none) Set.univ
              (.op (.load m (Rect.unit o s.size inb).toLoadRect l) kk) Q) := by
  subst hv
  exact wp_load_rect 𝒱₀ (c : Thread nD τ) none Set.univ (m := m) (r := Rect.unit o s.size inb) (Finset.subset_univ _)

/-- A store into a buffer whose contents come out as `g`. -/
theorem store_to (c : Dev nD) {cs : CoreSpace} {s : Shape} {e : EltTy} (m : Memref sig .tc cs s e) {o : Fin s.rank → ℕ}
    {inb : ∀ a, o a + s.size a ≤ s.size a} {f g : Buf (Elt F) ((m.access (Rect.unit o s.size inb)).loc (c : Thread nD τ))} {w : s.Idx → Elt F e}
    (hw : (m.access (Rect.unit o s.size inb)).write (Elt F) f w Finset.univ = g) {x1 x2}
    {α : Type} {Q : α → sProp 𝕄} {kk : PUnit → Prog (TpuEff nD τ sig (Elt F) Λ₀ .tc) α} :
    ((m.access (Rect.unit o s.size inb)).loc (c : Thread nD τ) ↦{fullShare} f)
      ⊢ iprop((((m.access (Rect.unit o s.size inb)).loc (c : Thread nD τ) ↦{fullShare} g) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store m (Rect.unit o s.size inb) w Finset.univ x1 x2) kk) Q) := by
  subst hw
  exact wp_store 𝒱₀ (c : Thread nD τ) none Set.univ (m := m) (r := Rect.unit o s.size inb) (Finset.subset_univ _)

theorem in0 {s : Shape} {o : Fin s.rank → ℕ} (h : o = fun _ => 0) (a) : o a + s.size a ≤ s.size a := by subst h; simp
theorem zero3 : (![0, 0, 0] : Fin 3 → ℕ) = fun _ => 0 := by decide
theorem zero2 : (![0, 0] : Fin 2 → ℕ) = fun _ => 0 := by decide

set_option maxHeartbeats 4000000 in
set_option maxRecDepth 20000 in
theorem body_run (c : Dev nD) (Kt : PUnit → sProp 𝕄) :
    iprop(bodyIn I K c ∗ (bodyOut I c -∗ Kt ⟨⟩))
      ⊢ wp frame (wpE (defs₀ (F := F)) 𝒱₀ c none) Set.univ (bodyAt0 t0_0) Kt := by
  simp only [bodyAt0, cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part17_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  simp only [semSignalWord, semWaitWord, Prog.lift, Prog.bind_op, Prog.bind_ret, Prog.pure_eq_ret, wp_deviceId]
  unfold bodyIn meet cpy
  iintro ⟨⟨#HR, #Hlev, HO, Hx, Hwq, Hwo, Hout, Hsk, Hsv, Hsa, Hacc, Hsr, Hks, Hvs, ⟨HatB, HcB, HtB⟩, ⟨Hat0, Ht0⟩, ⟨Hat1, Ht1⟩, Hends⟩, HK⟩
  ihave HtB := (Entails.of_eq (five (F := F) _)) $$ HtB
  icases HtB with ⟨Hb0, Hb1, Hb2, Hb3, Hb4⟩
  ihave Hsr := (recv_split c) $$ Hsr
  ihave Hsr := (Entails.of_eq (five (F := F) _)) $$ Hsr
  icases Hsr with ⟨Hr0, Hr1, Hr2, Hr3, Hr4⟩
  ihave Hends := (Entails.of_eq (ten (F := F) _)) $$ Hends
  icases Hends with ⟨He0, He1, He2, He3, He4, He5, He6, He7, He8, He9⟩
  -- the meeting
  iapply (signal_bar I K c _ 0 (dev1_eq c) rfl) $$ [HO Hb0 Hr0]
  · isplitr; · iexact HR
    isplitl [HO]; · iexact HO
    isplitl [Hb0]; · iexact Hb0
    iexact Hr0
  iintro HO
  iapply (signal_bar I K c _ 1 (dev2_eq c) rfl) $$ [HO Hb1 Hr1]
  · isplitr; · iexact HR
    isplitl [HO]; · iexact HO
    isplitl [Hb1]; · iexact Hb1
    iexact Hr1
  iintro HO
  iapply (signal_bar I K c _ 2 (dev3_eq c) rfl) $$ [HO Hb2 Hr2]
  · isplitr; · iexact HR
    isplitl [HO]; · iexact HO
    isplitl [Hb2]; · iexact Hb2
    iexact Hr2
  iintro HO
  iapply (signal_bar I K c _ 3 (dev4_eq c) rfl) $$ [HO Hb3 Hr3]
  · isplitr; · iexact HR
    isplitl [HO]; · iexact HO
    isplitl [Hb3]; · iexact Hb3
    iexact Hr3
  iintro HO
  iapply (signal_bar I K c _ 4 (dev5_eq c) rfl) $$ [HO Hb4 Hr4]
  · isplitr; · iexact HR
    isplitl [HO]; · iexact HO
    isplitl [Hb4]; · iexact Hb4
    iexact Hr4
  iintro HO
  iapply (wait_bar I K c rfl) $$ [HcB HO HatB]
  · isplitr; · iexact HR
    isplitr; · iexact Hlev
    isplitl [HcB]; · iexact HcB
    isplitl [HO]; · iexact HO
    iexact HatB
  iintro ⟨HO, HzB, Hr⟩
  ihave Hr := (Entails.of_eq (five (F := F) _)) $$ Hr
  icases Hr with ⟨Hr0, Hr1, Hr2, Hr3, Hr4⟩
  -- the keys and values
  iapply (copy_k I K c rfl) $$ [Hks Hsk Ht0]
  · isplitr; · iexact HR
    isplitl [Hks]; · iexact Hks
    isplitl [Hsk]; · unfold some_; iexact Hsk
    iexact Ht0
  iintro Hc0
  iapply (copy_v I K c rfl) $$ [Hvs Hsv Ht1]
  · isplitr; · iexact HR
    isplitl [Hvs]; · iexact Hvs
    isplitl [Hsv]; · unfold some_; iexact Hsv
    iexact Ht1
  iintro Hc1
  iapply (load_to c (Memref.whole cc0_stg0_0) (o := ![0, 0, 0]) (inb := in0 zero3) (f := (I.x c)) (v := (I.x c)) (Memref.read_access_unit_zero (Elt F) cc0_stg0_0 zero3 _ _)) $$ Hx
  iintro Hx
  iapply (load_to c (Memref.whole cc0_stg1_0) (o := ![0, 0]) (inb := in0 zero2) (f := (I.wq c)) (v := (I.wq c)) (Memref.read_access_unit_zero (Elt F) cc0_stg1_0 zero2 _ _)) $$ Hwq
  iintro Hwq
  iapply (wait_own I K c (.inl 0) rfl (wpE_waitDma2_eq 𝒱₀ (c : Thread nD τ) none Set.univ) rfl (OR c 10)
    (mayWait_OR c _ 10 (by omega) (by rw [show kind (osem (.inl 0)) = _ from kind_csem (.inr (.inl 0))]; simp only [lvOf]; omega))) $$ [Hc0 HO Hat0]
  · isplitr; · iexact HR
    isplitr; · iexact Hlev
    isplitl [Hc0]; · iexact Hc0
    isplitl [HO]; · iexact HO
    iexact Hat0
  iintro ⟨HO, Hz0, Hp0⟩
  iapply (wait_own I K c (.inl 1) rfl (wpE_waitDma2_eq 𝒱₀ (c : Thread nD τ) none Set.univ) rfl (OR c 10)
    (mayWait_OR c _ 10 (by omega) (by rw [show kind (osem (.inl 1)) = _ from kind_csem (.inr (.inl 1))]; simp only [lvOf]; omega))) $$ [Hc1 HO Hat1]
  · isplitr; · iexact HR
    isplitr; · iexact Hlev
    isplitl [Hc1]; · iexact Hc1
    isplitl [HO]; · iexact HO
    iexact Hat1
  iintro ⟨HO, Hz1, Hp1⟩
  ihave Hp0 := (Entails.of_eq (pay_k I c)) $$ Hp0
  icases Hp0 with ⟨Hsk, Hks⟩
  ihave Hp1 := (Entails.of_eq (pay_v I c)) $$ Hp1
  icases Hp1 with ⟨Hsv, Hvs⟩
  ihave Hsa := (attn_start I c) $$ Hsa
  -- the eight heads
  iapply (head_step I c 0 rfl rfl (fun a b => k0_pay4 (k0_pay3 (I.x c) (I.wq c) a) b) rfl) $$ [Hsk Hsv Hsa]
  · isplitl [Hsk]; · iexact Hsk
    isplitl [Hsv]; · iexact Hsv
    iexact Hsa
  iintro ⟨Hsk, Hsv, Hsa⟩
  iapply (head_step I c 1 rfl rfl (fun a b => k0_pay5 (k0_pay2 (I.x c) (I.wq c)) a b) rfl) $$ [Hsk Hsv Hsa]
  · isplitl [Hsk]; · iexact Hsk
    isplitl [Hsv]; · iexact Hsv
    iexact Hsa
  iintro ⟨Hsk, Hsv, Hsa⟩
  iapply (head_step I c 2 rfl rfl (fun a b => k0_pay6 (k0_pay2 (I.x c) (I.wq c)) a b) rfl) $$ [Hsk Hsv Hsa]
  · isplitl [Hsk]; · iexact Hsk
    isplitl [Hsv]; · iexact Hsv
    iexact Hsa
  iintro ⟨Hsk, Hsv, Hsa⟩
  iapply (head_step I c 3 rfl rfl (fun a b => k0_pay8 (k0_pay7 (k0_pay2 (I.x c) (I.wq c)) a) b) rfl) $$ [Hsk Hsv Hsa]
  · isplitl [Hsk]; · iexact Hsk
    isplitl [Hsv]; · iexact Hsv
    iexact Hsa
  iintro ⟨Hsk, Hsv, Hsa⟩
  iapply (head_step I c 4 rfl rfl (fun a b => k0_pay9 (k0_pay2 (I.x c) (I.wq c)) a b) rfl) $$ [Hsk Hsv Hsa]
  · isplitl [Hsk]; · iexact Hsk
    isplitl [Hsv]; · iexact Hsv
    iexact Hsa
  iintro ⟨Hsk, Hsv, Hsa⟩
  iapply (head_step I c 5 rfl rfl (fun a b => k0_pay10 (k0_pay2 (I.x c) (I.wq c)) a b) rfl) $$ [Hsk Hsv Hsa]
  · isplitl [Hsk]; · iexact Hsk
    isplitl [Hsv]; · iexact Hsv
    iexact Hsa
  iintro ⟨Hsk, Hsv, Hsa⟩
  iapply (head_step I c 6 rfl rfl (fun a b => k0_pay12 (k0_pay11 (k0_pay2 (I.x c) (I.wq c)) a) b) rfl) $$ [Hsk Hsv Hsa]
  · isplitl [Hsk]; · iexact Hsk
    isplitl [Hsv]; · iexact Hsv
    iexact Hsa
  iintro ⟨Hsk, Hsv, Hsa⟩
  iapply (head_step I c 7 rfl rfl (fun a b => k0_pay13 (k0_pay2 (I.x c) (I.wq c)) a b) rfl) $$ [Hsk Hsv Hsa]
  · isplitl [Hsk]; · iexact Hsk
    isplitl [Hsv]; · iexact Hsv
    iexact Hsa
  iintro ⟨Hsk, Hsv, Hsa⟩
  ihave Hsa := (attn_end I c) $$ Hsa
  -- this device's product
  iapply (load_to c (Memref.whole cc0_scratch2) (o := ![0, 0]) (inb := in0 zero2) (f := (attnB I c)) (v := (attnB I c)) (Memref.read_access_unit_zero (Elt F) cc0_scratch2 zero2 _ _)) $$ Hsa
  iintro Hsa
  iapply (load_to c (Memref.whole cc0_stg2_0) (o := ![0, 0]) (inb := in0 zero2) (f := (I.wo c)) (v := (I.wo c)) (Memref.read_access_unit_zero (Elt F) cc0_stg2_0 zero2 _ _)) $$ Hwo
  iintro Hwo
  unfold some_
  icases Hacc with ⟨%fa, Hacc⟩
  iapply (load_to c (Memref.whole cc0_scratch3) (o := ![0, 0]) (inb := in0 zero2) (f := fa) (v := fa) (Memref.read_access_unit_zero (Elt F) cc0_scratch3 zero2 _ _)) $$ Hacc
  iintro Hacc
  iapply (store_to c (Memref.whole cc0_scratch3) (o := ![0, 0]) (inb := in0 zero2) (f := fa) (g := (k0_pay14 (attnB I c) (I.wo c))) (w := (k0_pay14 (attnB I c) (I.wo c))) (Memref.write_access_unit_zero_univ (Elt F) cc0_scratch3 zero2 _ _ _)) $$ Hacc
  iintro Hacc
  ihave Hacc := (Entails.of_eq (show (((c : Thread nD τ).loc cc0_scratch3 ↦{fullShare} k0_pay14 (attnB I c) (I.wo c)) : sProp 𝕄) = accR c (off 0 c) (2 * half 0) (A I 0 c) by
    rw [← acc_whole, show A I 0 c = ofRows (k0_pay14 (attnB I c) (I.wo c)) from rfl, toRows_ofRows])) $$ Hacc
  -- the reduction
  iapply (rs_stage I K c _ 0 (dev6_eq c) 256 (by decide) (off2_eq c) rfl (off3_eq c) rfl rfl k0_pay15 (fun v w x => by unfold k0_pay15; rw [shapeCast_self]; rfl)) $$ [Hacc Hr0 HO He0]
  · isplitr; · iexact HR
    isplitr; · iexact Hlev
    isplitl [Hacc]; · iexact Hacc
    isplitl [Hr0]; · iexact Hr0
    isplitl [HO]; · iexact HO
    iexact He0
  iintro ⟨Hacc, Hs0, Hg0, HO, He0⟩
  ihave Hacc := (Entails.of_eq (show (accR c (off ((0 : Fin 5).val + 1) c) (half (0 : Fin 5).val) (A I ((0 : Fin 5).val + 1) c) : sProp 𝕄) = accR c (off (1 : Fin 5).val c) (2 * half (1 : Fin 5).val) (A I (1 : Fin 5).val c) from acc_next c 0 (A I 1 c))) $$ Hacc
  iapply (rs_stage I K c _ 1 (dev7_eq c) 128 (by decide) (off4_eq c) rfl (off5_eq c) rfl rfl k0_pay16 (fun v w x => by unfold k0_pay16; rw [shapeCast_self]; rfl)) $$ [Hacc Hr1 HO He1]
  · isplitr; · iexact HR
    isplitr; · iexact Hlev
    isplitl [Hacc]; · iexact Hacc
    isplitl [Hr1]; · iexact Hr1
    isplitl [HO]; · iexact HO
    iexact He1
  iintro ⟨Hacc, Hs1, Hg1, HO, He1⟩
  ihave Hacc := (Entails.of_eq (show (accR c (off ((1 : Fin 5).val + 1) c) (half (1 : Fin 5).val) (A I ((1 : Fin 5).val + 1) c) : sProp 𝕄) = accR c (off (2 : Fin 5).val c) (2 * half (2 : Fin 5).val) (A I (2 : Fin 5).val c) from acc_next c 1 (A I 2 c))) $$ Hacc
  iapply (rs_stage I K c _ 2 (dev8_eq c) 64 (by decide) (off6_eq c) rfl (off7_eq c) rfl rfl k0_pay17 (fun v w x => by unfold k0_pay17; rw [shapeCast_self]; rfl)) $$ [Hacc Hr2 HO He2]
  · isplitr; · iexact HR
    isplitr; · iexact Hlev
    isplitl [Hacc]; · iexact Hacc
    isplitl [Hr2]; · iexact Hr2
    isplitl [HO]; · iexact HO
    iexact He2
  iintro ⟨Hacc, Hs2, Hg2, HO, He2⟩
  ihave Hacc := (Entails.of_eq (show (accR c (off ((2 : Fin 5).val + 1) c) (half (2 : Fin 5).val) (A I ((2 : Fin 5).val + 1) c) : sProp 𝕄) = accR c (off (3 : Fin 5).val c) (2 * half (3 : Fin 5).val) (A I (3 : Fin 5).val c) from acc_next c 2 (A I 3 c))) $$ Hacc
  iapply (rs_stage I K c _ 3 (dev9_eq c) 32 (by decide) (off8_eq c) rfl (off9_eq c) rfl rfl k0_pay18 (fun v w x => by unfold k0_pay18; rw [shapeCast_self]; rfl)) $$ [Hacc Hr3 HO He3]
  · isplitr; · iexact HR
    isplitr; · iexact Hlev
    isplitl [Hacc]; · iexact Hacc
    isplitl [Hr3]; · iexact Hr3
    isplitl [HO]; · iexact HO
    iexact He3
  iintro ⟨Hacc, Hs3, Hg3, HO, He3⟩
  ihave Hacc := (Entails.of_eq (show (accR c (off ((3 : Fin 5).val + 1) c) (half (3 : Fin 5).val) (A I ((3 : Fin 5).val + 1) c) : sProp 𝕄) = accR c (off (4 : Fin 5).val c) (2 * half (4 : Fin 5).val) (A I (4 : Fin 5).val c) from acc_next c 3 (A I 4 c))) $$ Hacc
  iapply (rs_stage I K c _ 4 (dev10_eq c) 16 (by decide) (off10_eq c) rfl (off11_eq c) rfl rfl k0_pay19 (fun v w x => by unfold k0_pay19; rw [shapeCast_self]; rfl)) $$ [Hacc Hr4 HO He4]
  · isplitr; · iexact HR
    isplitr; · iexact Hlev
    isplitl [Hacc]; · iexact Hacc
    isplitl [Hr4]; · iexact Hr4
    isplitl [HO]; · iexact HO
    iexact He4
  iintro ⟨Hacc, Hs4, Hg4, HO, He4⟩
  ihave Hacc := (Entails.of_eq (show (accR c (off ((4 : Fin 5).val + 1) c) (half (4 : Fin 5).val) (A I ((4 : Fin 5).val + 1) c) : sProp 𝕄) = accR c (off ((4 : Fin 5).val + 1) c) (half (4 : Fin 5).val) (gat I) from acc_gat I c)) $$ Hacc
  -- the gathering
  iapply (ag_stage I K c _ 4 (dev11_eq c) 16 (by decide) (off12_eq c) rfl rfl) $$ [Hacc Hg4 HO He5]
  · isplitr; · iexact HR
    isplitr; · iexact Hlev
    isplitl [Hacc]; · iexact Hacc
    isplitl [Hg4]; · iexact Hg4
    isplitl [HO]; · iexact HO
    iexact He5
  iintro ⟨Hacc, HO, He5⟩
  ihave Hacc := (Entails.of_eq (show (accR c (off (4 : Fin 5).val c) (2 * half (4 : Fin 5).val) (gat I) : sProp 𝕄) = accR c (off ((3 : Fin 5).val + 1) c) (half (3 : Fin 5).val) (gat I) from (acc_next c 3 (gat I)).symm)) $$ Hacc
  iapply (ag_stage I K c _ 3 (dev12_eq c) 32 (by decide) (off13_eq c) rfl rfl) $$ [Hacc Hg3 HO He6]
  · isplitr; · iexact HR
    isplitr; · iexact Hlev
    isplitl [Hacc]; · iexact Hacc
    isplitl [Hg3]; · iexact Hg3
    isplitl [HO]; · iexact HO
    iexact He6
  iintro ⟨Hacc, HO, He6⟩
  ihave Hacc := (Entails.of_eq (show (accR c (off (3 : Fin 5).val c) (2 * half (3 : Fin 5).val) (gat I) : sProp 𝕄) = accR c (off ((2 : Fin 5).val + 1) c) (half (2 : Fin 5).val) (gat I) from (acc_next c 2 (gat I)).symm)) $$ Hacc
  iapply (ag_stage I K c _ 2 (dev13_eq c) 64 (by decide) (off14_eq c) rfl rfl) $$ [Hacc Hg2 HO He7]
  · isplitr; · iexact HR
    isplitr; · iexact Hlev
    isplitl [Hacc]; · iexact Hacc
    isplitl [Hg2]; · iexact Hg2
    isplitl [HO]; · iexact HO
    iexact He7
  iintro ⟨Hacc, HO, He7⟩
  ihave Hacc := (Entails.of_eq (show (accR c (off (2 : Fin 5).val c) (2 * half (2 : Fin 5).val) (gat I) : sProp 𝕄) = accR c (off ((1 : Fin 5).val + 1) c) (half (1 : Fin 5).val) (gat I) from (acc_next c 1 (gat I)).symm)) $$ Hacc
  iapply (ag_stage I K c _ 1 (dev14_eq c) 128 (by decide) (off15_eq c) rfl rfl) $$ [Hacc Hg1 HO He8]
  · isplitr; · iexact HR
    isplitr; · iexact Hlev
    isplitl [Hacc]; · iexact Hacc
    isplitl [Hg1]; · iexact Hg1
    isplitl [HO]; · iexact HO
    iexact He8
  iintro ⟨Hacc, HO, He8⟩
  ihave Hacc := (Entails.of_eq (show (accR c (off (1 : Fin 5).val c) (2 * half (1 : Fin 5).val) (gat I) : sProp 𝕄) = accR c (off ((0 : Fin 5).val + 1) c) (half (0 : Fin 5).val) (gat I) from (acc_next c 0 (gat I)).symm)) $$ Hacc
  iapply (ag_stage I K c _ 0 (dev15_eq c) 256 (by decide) (off16_eq c) rfl rfl) $$ [Hacc Hg0 HO He9]
  · isplitr; · iexact HR
    isplitr; · iexact Hlev
    isplitl [Hacc]; · iexact Hacc
    isplitl [Hg0]; · iexact Hg0
    isplitl [HO]; · iexact HO
    iexact He9
  iintro ⟨Hacc, HO, He9⟩
  ihave Hacc := (Entails.of_eq (show (accR c (off (0 : Fin 5).val c) (2 * half (0 : Fin 5).val) (gat I) : sProp 𝕄) = _ from (acc_whole c (gat I)).symm)) $$ Hacc
  -- the output
  iapply (load_to c (Memref.whole cc0_scratch3) (o := ![0, 0]) (inb := in0 zero2) (f := (toRows 512 (gat I))) (v := (toRows 512 (gat I))) (Memref.read_access_unit_zero (Elt F) cc0_scratch3 zero2 _ _)) $$ Hacc
  iintro Hacc
  icases Hout with ⟨%fo, Hout⟩
  iapply (load_to c (Memref.whole cc0_stg3_0) (o := ![0, 0, 0]) (inb := in0 zero3) (f := fo) (v := fo) (Memref.read_access_unit_zero (Elt F) cc0_stg3_0 zero3 _ _)) $$ Hout
  iintro Hout
  iapply (store_to c (Memref.whole cc0_stg3_0) (o := ![0, 0, 0]) (inb := in0 zero3) (f := fo) (g := (outAt I)) (w := (outAt I)) (Memref.write_access_unit_zero_univ (Elt F) cc0_stg3_0 zero3 _ _ _)) $$ Hout
  iintro Hout
  rw [wp_ret]
  imodintro
  iapply HK
  unfold bodyOut
  isplitl [HO]; · iexact HO
  isplitl [Hx]; · iexact Hx
  isplitl [Hwq]; · iexact Hwq
  isplitl [Hwo]; · iexact Hwo
  isplitl [Hout]; · iexact Hout
  isplitl [Hsk]; · unfold some_; iexists _; iexact Hsk
  isplitl [Hsv]; · unfold some_; iexists _; iexact Hsv
  isplitl [Hsa]; · unfold some_; iexists _; iexact Hsa
  isplitl [Hacc]; · unfold some_; iexists _; iexact Hacc
  isplitl [Hs0 Hs1 Hs2 Hs3 Hs4]
  · iapply (recv_join c)
    iapply (Entails.of_eq (five (F := F) (fun k : Fin 5 => iprop(∃ f, recvR (F := F) c k f))).symm)
    isplitl [Hs0]; · iexact Hs0
    isplitl [Hs1]; · iexact Hs1
    isplitl [Hs2]; · iexact Hs2
    isplitl [Hs3]; · iexact Hs3
    iexact Hs4
  isplitl [Hks]; · iexact Hks
  isplitl [Hvs]; · iexact Hvs
  isplitl [HzB]; · iexact HzB
  isplitl [Hz0]; · iexact Hz0
  isplitl [Hz1]; · iexact Hz1
  iapply (Entails.of_eq (ten (F := F) (fun j : Fin 10 => zeros (F := F) c j)).symm)
  isplitl [He0]; · iexact He0
  isplitl [He1]; · iexact He1
  isplitl [He2]; · iexact He2
  isplitl [He3]; · iexact He3
  isplitl [He4]; · iexact He4
  isplitl [He5]; · iexact He5
  isplitl [He6]; · iexact He6
  isplitl [He7]; · iexact He7
  isplitl [He8]; · iexact He8
  iexact He9

end Cert.KernelIdealProof
-- ==== Proof.Deal.lean ====
module
public import proofs.«01_k».proof.Proof.Body

/-! # Dealing out the protocol

Every cell's invariant is allocated, and each device is given its own positions, the tokens of the duties it pays and the
credit of the cells it waits on. -/

@[expose] public section
noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (I : Inp F)

theorem ownSemFacts : Pipeline.OwnSemFacts cfg0.spec osem := by decide

/-- A family over a sum, in two. -/
theorem two_kinds {α β : Type} [Fintype α] [Fintype β] [DecidableEq α] [DecidableEq β] (Φ : α ⊕ β → sProp 𝕄) :
    bigSep Finset.univ Φ = iprop((bigSep Finset.univ fun a => Φ (.inl a)) ∗ bigSep Finset.univ fun b => Φ (.inr b)) := bigSep_univ_sum Φ

/-! ## Tokens -/

/-- The duties of a device's cells: five of the barrier, one of every other. -/
abbrev TI : Type := Fin 5 ⊕ OI

/-- A duty of a cell of device `c`. -/
def tokOf : Dev nD × TI → GSem nD τ sig × ℕ × Fin 5
  | (c, .inl k) => (barCell c, 0, k)
  | (c, .inr i) => (kcell (c, .inr i), 0, 0)

/-- The device whose cell's duty of that name a device pays. -/
def payee : TI → Dev nD → Dev nD
  | .inl k, c => peer k c
  | .inr (.inr (.inr j)), c => partner j c
  | _, c => c

theorem payee_payee (t : TI) (c : Dev nD) : payee t (payee t c) = c := by
  rcases t with k | i | j | j
  · exact peer_peer k c
  · rfl
  · rfl
  · exact partner_partner j c

/-- Dealing is a permutation of all duties. -/
def deal : Dev nD × TI ≃ Dev nD × TI where
  toFun ct := (payee ct.2 ct.1, ct.2)
  invFun ct := (payee ct.2 ct.1, ct.2)
  left_inv ct := by simp [payee_payee]
  right_inv ct := by simp [payee_payee]

theorem tokOf_injective : Function.Injective tokOf := by
  rintro ⟨c, t⟩ ⟨c', t'⟩ h
  rcases t with k | i <;> rcases t' with k' | i'
  · have h1 : c = c' := congrArg (fun x : GSem nD τ sig × ℕ × Fin 5 => x.1.1.1) h
    have h2 : k = k' := congrArg (fun x : GSem nD τ sig × ℕ × Fin 5 => x.2.2) h
    rw [h1, h2]
  · have h1 : kcell (c, .inl ()) = kcell (c', .inr i') := congrArg (fun x : GSem nD τ sig × ℕ × Fin 5 => x.1) h
    cases kcell_injective h1
  · have h1 : kcell (c, .inr i) = kcell (c', .inl ()) := congrArg (fun x : GSem nD τ sig × ℕ × Fin 5 => x.1) h
    cases kcell_injective h1
  · have h1 : kcell (c, .inr i) = kcell (c', .inr i') := congrArg (fun x : GSem nD τ sig × ℕ × Fin 5 => x.1) h
    cases kcell_injective h1; rfl

def theCells : Finset (GSem nD τ sig) := Finset.univ.map ⟨kcell, kcell_injective⟩
def theToks : Finset (GSem nD τ sig × ℕ × Fin 5) := Finset.univ.map ⟨tokOf, tokOf_injective⟩

def u₀ : UU := (initOf (Pipeline.cells cfgs cellOf_inj) (Pipeline.launchToks cfgs cellOf_inj), initOf theCells theToks)

def tokAt (ct : Dev nD × TI) : sProp 𝕄 := dutyTok ER (tokOf ct).1 (tokOf ct).2.1 (tokOf ct).2.2

/-- What the launch gives device `c`. -/
def G (c : Dev nD) : sProp 𝕄 :=
  iprop((bigSep Finset.univ fun i : CI => roundState ER (sched I) (kcell (c, i)) 0)
    ∗ (bigSep Finset.univ fun i : CI => iprop(atPos ER (kcell (c, i)) 0 ∅ 0 ∗ reached ER (kcell (c, i)) 0))
    ∗ bigSep Finset.univ fun t : TI => tokAt (F := F) (c, t))

/-- Its positions and the tokens of the duties it pays. -/
def linear (c : Dev nD) : sProp 𝕄 :=
  iprop((bigSep Finset.univ fun i : CI => atPos ER (kcell (c, i)) 0 ∅ 0) ∗ bigSep Finset.univ fun t : TI => tokAt (F := F) (payee t c, t))

/-- What the dealing makes of it. -/
def G' (c : Dev nD) : sProp 𝕄 := iprop(∃ K, records I K ∗ linear c)

theorem fund : BI.own (ER (initOf theCells theToks)) ⊢ (|==> bigSep Finset.univ (G I) : sProp 𝕄) := by
  have hX (Φ : GSem nD τ sig → sProp 𝕄) : bigSep theCells Φ = bigSep Finset.univ fun c : Dev nD => bigSep Finset.univ fun i : CI => Φ (kcell (c, i)) := by
    unfold theCells; rw [bigSep_map, bigSep_univ_prod]; rfl
  have hT : bigSep theToks (fun x => (dutyTok ER x.1 x.2.1 x.2.2 : sProp 𝕄)) = bigSep Finset.univ fun c : Dev nD => bigSep Finset.univ fun t : TI => tokAt (c, t) := by
    unfold theToks; rw [bigSep_map, bigSep_univ_prod]; rfl
  iintro HX
  imod (Rounds.fund ER (sched I) theCells theToks) $$ HX with ⟨Hst, Hr, Hat, Htok⟩
  imodintro
  ihave Hst := (Entails.of_eq (hX fun g => roundState ER (sched I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, two_kinds, show (Finset.univ : Finset Unit) = {()} from rfl, bigSep_singleton]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i : CI => iprop(∃ κ : ℕ, cellInv ER (sched I) κ (kcell (c, i))))
          ∗ (bigSep Finset.univ fun i : CI => iprop(atPos ER (kcell (c, i)) 0 ∅ 0 ∗ reached ER (kcell (c, i)) 0))
          ∗ bigSep Finset.univ fun t : TI => tokAt (F := F) (c, t)) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (sched I) (kcell (c, i)) 0)
      ⊢ (|={Set.univ}=> bigSep Finset.univ fun i : CI => iprop(∃ κ : ℕ, cellInv ER (sched I) κ (kcell (c, i))) : sProp 𝕄) from by
        rw [← bigSep_sep']
        exact (bigSep_mono fun i _ => (Rounds.body_intro ER (sched I) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to those that pay. -/
theorem toks_dealt : (bigSep Finset.univ fun c : Dev nD => bigSep Finset.univ fun t : TI => tokAt (F := F) (c, t))
    = bigSep Finset.univ fun c : Dev nD => bigSep Finset.univ fun t : TI => tokAt (F := F) (payee t c, t) := by
  rw [← bigSep_univ_prod (fun ct : Dev nD × TI => tokAt (F := F) ct), bigSep_univ_equiv deal,
    ← bigSep_univ_prod (fun ct : Dev nD × TI => tokAt (F := F) (payee ct.2 ct.1, ct.2))]
  rfl

theorem each_with {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CI => iprop(∃ κ : ℕ, cellInv ER (sched I) κ (kcell (c, i))))
          ∗ (bigSep Finset.univ fun i : CI => iprop(atPos ER (kcell (c, i)) 0 ∅ 0 ∗ reached ER (kcell (c, i)) 0))
          ∗ bigSep Finset.univ fun t : TI => tokAt (F := F) (c, t)) : sProp 𝕄)
      ⊢ bigSep Finset.univ (G' I) := by
  rw [bigSep_sep', bigSep_sep', ← bigSep_univ_prod (fun ci : Dev nD × CI => iprop(∃ κ : ℕ, cellInv ER (sched I) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄)), toks_dealt]
  iintro ⟨HI, ⟨Hat, #HR⟩, Htok⟩
  ihave HK := (BI.bigSep_exists_pi Finset.univ (fun (ci : Dev nD × CI) (κ : ℕ) => (cellInv ER (sched I) κ (kcell ci) : sProp 𝕄))) $$ HI
  icases HK with ⟨%K, #HI⟩
  iapply (each_with (R := records I K) (Φ := linear) fun c _ => exists_intro (Φ := fun K => iprop(records I K ∗ linear c)) K)
  isplitr
  · unfold records; isplitl; · iexact HI
    iexact HR
  · unfold linear
    rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## Credit -/

/-- What a device owes at the start. -/
theorem owed_eq (d : Dev nD) (g : GSem nD τ sig) :
    O₀ d g () = (∑ j : Fin 10, debtR d j g ()) + ∑ k : Fin 5, (tallyAt (barCell (peer k d)) () 1 : CellTallies nD τ sig Unit) g () := by
  have e : O₀ d = ((((((((((((((0 + debtR d 9) + debtR d 8) + debtR d 7) + debtR d 6) + debtR d 5) + debtR d 4) + debtR d 3) + debtR d 2) + debtR d 1)
      + debtR d 0) + tallyAt (barCell (peer 4 d)) () 1) + tallyAt (barCell (peer 3 d)) () 1) + tallyAt (barCell (peer 2 d)) () 1)
      + tallyAt (barCell (peer 1 d)) () 1) + tallyAt (barCell (peer 0 d)) () 1 := rfl
  rw [e]
  simp only [Pi.add_apply, Finsupp.add_apply, Fin.sum_univ_succ, Fin.sum_univ_zero, Pi.zero_apply, Finsupp.zero_apply]
  simp only [show (Fin.succ 0 : Fin 10) = 1 from rfl, Fin.reduceSucc]
  omega

theorem bar_inj {a b : Dev nD} (h : barCell a = barCell b) : a = b := congrArg (fun g : GSem nD τ sig => g.1.1) h

theorem owed_bar (d c : Dev nD) : O₀ d (barCell c) () = ∑ k : Fin 5, if d = peer k c then 1 else 0 := by
  rw [owed_eq, Finset.sum_eq_zero, Nat.zero_add]
  · refine Finset.sum_congr rfl fun k _ => ?_
    rw [tallyAt_apply]
    by_cases h : d = peer k c
    · rw [if_pos h, if_pos ⟨by rw [h, peer_peer], rfl⟩]
    · rw [if_neg h, if_neg fun h' => h (by rw [bar_inj h'.1, peer_peer])]
  · intro j _
    unfold debtR
    rw [tallyAt_apply, if_neg fun h' => by cases (kcell_injective (a₁ := (c, .inl ())) (a₂ := (partner j d, .inr (.inr (.inr j)))) h'.1)]

theorem owed_recv (d c : Dev nD) (j : Fin 10) : O₀ d (recvCell j c) () = if d = partner j c then crN (half (stg j)) else 0 := by
  rw [owed_eq, Finset.sum_eq_zero (f := fun k : Fin 5 => _), Nat.add_zero, Finset.sum_eq_single j]
  · unfold debtR
    rw [tallyAt_apply]
    by_cases h : d = partner j c
    · rw [if_pos h, if_pos ⟨by rw [h, partner_partner], rfl⟩]
    · rw [if_neg h, if_neg fun h' => h (by rw [show c = partner j d from congrArg (fun g : GSem nD τ sig => g.1.1) h'.1, partner_partner])]
  · intro j' _ hj
    unfold debtR
    rw [tallyAt_apply, if_neg fun h' => by
      cases (kcell_injective (a₁ := (c, .inr (.inr (.inr j)))) (a₂ := (partner j' d, .inr (.inr (.inr j')))) h'.1); exact hj rfl]
  · exact fun h => absurd (Finset.mem_univ _) h
  · intro k _
    rw [tallyAt_apply, if_neg fun h' => by cases (kcell_injective (a₁ := (c, .inr (.inr (.inr j)))) (a₂ := (peer k d, .inl ())) h'.1)]

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (peer k c) fun _ => 1).trans (if_pos (Finset.mem_univ _))]
  rfl

theorem launch_recv (c : Dev nD) (j : Fin 10) :
    tallyOn (recvCell j c) (launchCredit (Pipeline.owing O₀) 0 (recvCell j c)) = (tallyAt (recvCell j c) () (crN (half (stg j))) : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (partner j c) fun _ => crN (half (stg j)), if_pos (Finset.mem_univ _)]

/-- The semaphores a device waits on for others. -/
def heard : Unit ⊕ Fin 10 ↪ SemLoc sig where
  toFun
    | .inl _ => csem (.inl ())
    | .inr j => csem (.inr (.inr (.inr j)))
  inj' := by
    rintro (_ | j) (_ | j') h
    · rfl
    · cases csem_injective h
    · cases csem_injective h
    · cases csem_injective h; rfl

theorem creds (c : Dev nD) :
    (Pipeline.launchCred O₀ c : sProp 𝕄) ⊢ iprop(cred (tallyAt (barCell c) () 5) ∗ bigSep Finset.univ fun j : Fin 10 => cred (tallyAt (recvCell j c) () (crN (half (stg j))))) := by
  unfold Pipeline.launchCred
  refine (bigSep_subset (Finset.subset_univ (Finset.univ.map heard))).trans ?_
  rw [bigSep_map, two_kinds, show (Finset.univ : Finset Unit) = {()} from rfl, bigSep_singleton]
  exact Entails.of_eq (congrArg₂ (fun P Q : sProp 𝕄 => iprop(P ∗ Q)) (congrArg _ (launch_bar c)) (bigSep_congr fun j _ => congrArg _ (launch_recv c j)))

/-- A device's places in the protocol. -/
theorem places (c : Dev nD) :
    iprop(linear c ∗ cred (tallyAt (barCell c) () 5) ∗ bigSep Finset.univ fun j : Fin 10 => cred (tallyAt (recvCell j c) () (crN (half (stg j)))))
      ⊢ (iprop(meet c ∗ cpy c 0 ∗ cpy c 1 ∗ bigSep Finset.univ fun j : Fin 10 => ends c j) : sProp 𝕄) := by
  have two (Φ : Fin 2 → sProp 𝕄) : bigSep Finset.univ Φ = iprop(Φ 0 ∗ Φ 1) := bigSep_univ_eq_bigSepL [0, 1] (by decide) (by decide) Φ
  unfold linear meet cpy ends
  rw [two_kinds, two_kinds, two_kinds, two_kinds, two_kinds, two_kinds,
    show (Finset.univ : Finset Unit) = {()} from rfl, bigSep_singleton, two, two, bigSep_sep', bigSep_sep', bigSep_sep', bigSep_sep']
  iintro ⟨⟨⟨Ha, ⟨Hb0, Hb1⟩, Hc, Hd⟩, He, ⟨Hf0, Hf1⟩, Hg, Hh⟩, Hi, Hj⟩
  isplitl [Ha He Hi]
  · isplitl [Ha]; · iexact Ha
    isplitl [Hi]; · iexact Hi
    iexact He
  isplitl [Hb0 Hf0]
  · isplitl [Hb0]; · iexact Hb0
    iapply (Entails.of_eq (show tokAt (F := F) (payee (.inr (.inl 0)) c, .inr (.inl 0)) = dutyTok ER (cpyCell 0 c) 0 0 from rfl)); iexact Hf0
  isplitl [Hb1 Hf1]
  · isplitl [Hb1]; · iexact Hb1
    iapply (Entails.of_eq (show tokAt (F := F) (payee (.inr (.inl 1)) c, .inr (.inl 1)) = dutyTok ER (cpyCell 1 c) 0 0 from rfl)); iexact Hf1
  isplitl [Hc]; · iexact Hc
  isplitl [Hd]; · iexact Hd
  isplitl [Hg]; · iexact Hg
  isplitl [Hh]; · iexact Hh
  iexact Hj

end Cert.KernelIdealProof
-- ==== Proof.Launch.lean ====
module
public import proofs.«01_k».proof.Proof.Deal
public import Idealize.ShloMosaic.Lib.Pipeline.CollectiveSegs

/-! # The run

The launch of the kernel on every device, from any memory with zero counters: every fair execution ends, with each device's
result array at the gathered sum, the arguments as they were, and every counter at zero. -/

@[expose] public section
noncomputable section
namespace Cert.KernelIdealProof
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- The memory at the start. -/
abbrev s₀ : MemSt nD τ sig (Elt F) := ⟨m, fun _ => 0, ρ⟩

/-- The arguments in it. -/
def inp : Inp F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg4))
  k c := m ((c : Thread nD τ).loc main_arg2)
  v c := m ((c : Thread nD τ).loc main_arg3)

/-- What the launch hands a device beside its buffers. -/
def start (c : Dev nD) : sProp 𝕄 :=
  iprop(G' (inp m) c ∗ (cred (tallyAt (barCell c) () 5) ∗ bigSep Finset.univ fun j : Fin 10 => cred (tallyAt (recvCell j c) () (crN (half (stg j)))))
    ∗ levAts L lv ∗ kSrc (inp m) c ∗ vSrc (inp m) c)

def scr (c : Dev nD) : sProp 𝕄 :=
  iprop(some_ c cc0_scratch0 ∗ some_ c cc0_scratch1 ∗ some_ c cc0_scratch2 ∗ some_ c cc0_scratch3 ∗ some_ c cc0_scratch4)

def Φ₀ (c : Dev nD) : sProp 𝕄 := iprop(start m c ∗ scr c)
def Φ₁ (c : Dev nD) : sProp 𝕄 :=
  iprop(scr c ∗ semVal (barCell c) 0 ∗ semVal (cpyCell 0 c) 0 ∗ semVal (cpyCell 1 c) 0 ∗ bigSep Finset.univ fun j : Fin 10 => zeros (F := F) c j)

/-- The call's proof data on device `c`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wo c
    | ⟨3, _⟩ => outAt (inp m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stays (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stays c cc0_stg0_0 ((dats m ρ 0 c).before (0 : Fin 4) t0_0 d))
    ∗ (∃ d, stays c cc0_stg1_0 ((dats m ρ 0 c).before (1 : Fin 4) t0_0 d))
    ∗ (∃ d, stays c cc0_stg2_0 ((dats m ρ 0 c).before (2 : Fin 4) t0_0 d))
    ∗ (∃ d, stays c cc0_stg3_0 ((dats m ρ 0 c).before (3 : Fin 4) t0_0 d)))
def bodyPost (c : Dev nD) : sProp 𝕄 :=
  iprop(Φ₁ c ∗ (dats m ρ 0 c).owesAt () t0_0.succ
    ∗ stays c cc0_stg0_0 ((inp m).x c) ∗ stays c cc0_stg1_0 ((inp m).wq c) ∗ stays c cc0_stg2_0 ((inp m).wo c) ∗ stays c cc0_stg3_0 (outAt (inp m)))

theorem fetches (w : Fin 4) (hw : w ≠ 3) : (cfg0.win w).fetch t0_0 = true := by
  fin_cases w <;> first | rfl | exact absurd rfl hw

set_option maxRecDepth 20000 in
/-- The body meets the call's obligation. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [whole_owns]
  show bodyPre m ρ c ⊢ wp frame (wpE (defs₀ (F := F)) 𝒱₀ c none) Set.univ (bodyAt0 t0_0) (fun _ => bodyPost m ρ c)
  unfold bodyPre Φ₀ start scr G' stays
  iintro ⟨⟨⟨⟨%K, HR, HL⟩, Hcr, Hlev, HkS, HvS⟩, H0, H1, H2, H3, H4⟩, HO, ⟨%d0, %g0, %hg0, Hx⟩, ⟨%d1, %g1, %hg1, Hq⟩, ⟨%d2, %g2, %hg2, Hw⟩, ⟨%d3, %g3, %hg3, Ho⟩⟩
  have hx : g0 = (inp m).x c := by rw [hg0]; unfold Dat.before; rw [if_pos (fetches 0 (by decide))]; rfl
  have hq : g1 = (inp m).wq c := by rw [hg1]; unfold Dat.before; rw [if_pos (fetches 1 (by decide))]; rfl
  have hw : g2 = (inp m).wo c := by rw [hg2]; unfold Dat.before; rw [if_pos (fetches 2 (by decide))]; rfl
  subst hx hq hw
  unfold Dat.owesAt Pipeline.owesWithin
  rw [show (dats m ρ 0 c).owed t0_0.castSucc = O₀ c from rfl]
  icases HO with ⟨%W, -, HO⟩
  ihave HP := (places (F := F) c) $$ [HL Hcr]
  · isplitl [HL]; · iexact HL
    iexact Hcr
  icases HP with ⟨Hm, Hc0, Hc1, He⟩
  iapply (body_run (inp m) K c fun _ => bodyPost m ρ c)
  isplitr []
  · unfold bodyIn
    isplitl [HR]; · iexact HR
    isplitl [Hlev]; · iexact Hlev
    isplitl [HO]; · unfold ow; iexists W; iexact HO
    isplitl [Hx]; · iexact Hx
    isplitl [Hq]; · iexact Hq
    isplitl [Hw]; · iexact Hw
    isplitl [Ho]; · unfold some_; iexists g3; iexact Ho
    isplitl [H0]; · iexact H0
    isplitl [H1]; · iexact H1
    isplitl [H2]; · iexact H2
    isplitl [H3]; · iexact H3
    isplitl [H4]; · iexact H4
    isplitl [HkS]; · iexact HkS
    isplitl [HvS]; · iexact HvS
    isplitl [Hm]; · iexact Hm
    isplitl [Hc0]; · iexact Hc0
    isplitl [Hc1]; · iexact Hc1
    iexact He
  unfold bodyOut bodyPost Φ₁ scr stays Dat.owesAt Pipeline.owesWithin ow
  rw [show (dats m ρ 0 c).owed t0_0.succ = 0 from rfl]
  iintro ⟨⟨%W', HO⟩, Hx, Hq, Hw, Ho, H0, H1, H2, H3, H4, -, -, Hb, Hc0, Hc1, Hz⟩
  isplitl [H0 H1 H2 H3 H4 Hb Hc0 Hc1 Hz]
  · isplitl [H0 H1 H2 H3 H4]
    · isplitl [H0]; · iexact H0
      isplitl [H1]; · iexact H1
      isplitl [H2]; · iexact H2
      isplitl [H3]; · iexact H3
      iexact H4
    isplitl [Hb]; · iexact Hb
    isplitl [Hc0]; · iexact Hc0
    isplitl [Hc1]; · iexact Hc1
    iexact Hz
  isplitl [HO]
  · iexists W'
    isplitr; · ipureintro; exact fun _ _ => Or.inl trivial
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Ho

/-! ## The launch's side conditions -/

/-- One share of the K and V arrays, kept from the body. -/
def kept (c : Dev nD) : sProp 𝕄 :=
  iprop(((c : Thread nD τ).loc main_arg2 ↦{fullShare.left} m ((c : Thread nD τ).loc main_arg2)) ∗ ((c : Thread nD τ).loc main_arg3 ↦{fullShare.left} m ((c : Thread nD τ).loc main_arg3)))

theorem halves (c : Dev nD) (b : Ref sig .tc) (f : Buf (Elt F) ((c : Thread nD τ).loc b)) (S : Finset _) :
    (((c : Thread nD τ).loc b ↦{fullShare} f) : sProp 𝕄) ⊢ iprop(((c : Thread nD τ).loc b ↦{fullShare.left} f) ∗ ((c : Thread nD τ).loc b ↦[S]{fullShare.right} f)) := by
  refine (pointsTo_share (PosShare.mem_left_op_right fullShare)).1.trans (sep_mono_right ?_)
  have e : (Finset.univ : Finset _) = S ∪ (Finset.univ \ S) := (Finset.union_sdiff_of_subset (Finset.subset_univ S)).symm
  rw [e]
  refine (pointsTo_union Finset.disjoint_sdiff).1.trans ?_
  iintro ⟨H, -⟩
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ kept m c) := by
  rw [Pipeline.unscopedRestP_none, unscopedRest0_eq]
  iintro ⟨⟨HK, HV⟩, Hlev, Hcr, -, HG⟩
  ihave Hc := (creds (F := F) c) $$ Hcr
  ihave HK := (halves c main_arg2 (m ((c : Thread nD τ).loc main_arg2)) (kArr c).view.set) $$ HK
  ihave HV := (halves c main_arg3 (m ((c : Thread nD τ).loc main_arg3)) (vArr c).view.set) $$ HV
  icases HK with ⟨HKl, HKr⟩
  icases HV with ⟨HVl, HVr⟩
  imodintro
  unfold start kept
  isplitr [HKl HVl]
  · isplitl [HG]; · iexact HG
    isplitl [Hc]; · iexact Hc
    isplitl [Hlev]; · iexact Hlev
    unfold kSrc vSrc
    isplitl [HKr]; · iexact HKr
    iexact HVr
  · isplitl [HKl]; · iexact HKl
    iexact HVl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr some_
  iintro ⟨Hs, -, Hr⟩
  isplitl [Hs]; · iexact Hs
  iexact Hr

theorem ownSems0_eq (c : Dev nD) : (Pipeline.ownSems0 (Ix := Unit) (Name := ℕ) (U := UU) (Lvl := ℕ) (Val := Elt F) (τ := τ) osem c : sProp 𝕄)
    = iprop((semVal (cpyCell 0 c) 0 ∗ semVal (cpyCell 1 c) 0) ∗ bigSep Finset.univ fun j : Fin 10 => zeros (F := F) c j) := by
  have two (Φ : Fin 2 → sProp 𝕄) : bigSep Finset.univ Φ = iprop(Φ 0 ∗ Φ 1) := bigSep_univ_eq_bigSepL [0, 1] (by decide) (by decide) Φ
  unfold Pipeline.ownSems0 zeros
  rw [two_kinds, two_kinds, two, bigSep_sep']
  rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr some_
  iintro ⟨Hr, Hb, Hc0, Hc1, Hz⟩
  isplitl [Hb]; · iexact Hb
  isplitl [Hc0 Hc1 Hz]
  · isplitl [Hc0 Hc1]
    · isplitl [Hc0] <;> iassumption
    iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- What a window's array ends at. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem kept_read (c : Dev nD) (s' : Phys nD τ sig (Elt F)) :
    (iprop(kept m c ∗ SI s') : sProp 𝕄) ⊢ iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') := by
  let ℓ : Bool → Loc nD τ sig := fun b => if b then (c : Thread nD τ).loc main_arg2 else (c : Thread nD τ).loc main_arg3
  have h := pointsTo_read_all (Ix := Unit) (Name := ℕ) (U := UU) (Lvl := ℕ) Finset.univ ℓ (fun b => m (ℓ b)) s' (q := fullShare.left)
  rw [bigSep_univ_eq_bigSepL [true, false] (by decide) (by decide), bigSepL_cons_cons, bigSepL_singleton] at h
  refine (show _ ⊢ _ from h).trans (sep_mono_left (BI.pure_mono fun h => ⟨h true (Finset.mem_univ _), h false (Finset.mem_univ _)⟩))

set_option maxRecDepth 8000 in
/-- The run, for any float values. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund (inp m)) $$ HX with HG
      imodintro
      isplitl [HP] <;> iassumption)
    (hglob := glob (inp m))
    (hA := fun _ _ => rfl) (hpf := fun _ k => k.elim0)
    (X := start m) (Y := fun c => unscopedSems0 c) (Z := kept m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨Hu, Hk, HSI⟩
      ihave H := (kept_read m c s') $$ [Hk HSI]
      · isplitl [Hk] <;> iassumption
      icases H with ⟨%hk, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, hk⟩
      iexact HSI)
    (hQ := fun _ h hs => ⟨fun c => ⟨fun w => (h c).1 w, (h c).2.2.2⟩, sem_eq_zero hs fun c => (h c).2.2.1⟩)

/-! ## The arrays after it -/

theorem final_in (c : Dev nD) (w : Fin 4) (hw : w ≠ 3) : finalA m ρ c w = m ((cfg0.win w).arr.view.loc (c : Thread nD τ)) :=
  (dats (F := F) m ρ 0 c).arrAt_in w (by fin_cases w <;> first | rfl | exact absurd rfl hw) _

theorem read_x (f : (main_arg0 : Ref sig .tc).ty.Contents (Elt F)) : (win0_0.blk t0_0).view.read (Elt F) f = f :=
  Memref.read_access_unit_zero (Elt F) main_arg0 (funext fun a => Nat.zero_mul _) _ f
theorem inp_x (c : Dev nD) : (inp m).x c = m ((c : Thread nD τ).loc main_arg0) := by unfold inp; exact read_x (F := F) _
theorem read_wq (f : (main_arg1 : Ref sig .tc).ty.Contents (Elt F)) : (win0_1.blk t0_0).view.read (Elt F) f = f :=
  Memref.read_access_unit_zero (Elt F) main_arg1 (funext fun a => Nat.zero_mul _) _ f
theorem inp_wq (c : Dev nD) : (inp m).wq c = m ((c : Thread nD τ).loc main_arg1) := by unfold inp; exact read_wq (F := F) _
theorem read_wo (f : (main_arg4 : Ref sig .tc).ty.Contents (Elt F)) : (win0_2.blk t0_0).view.read (Elt F) f = f :=
  Memref.read_access_unit_zero (Elt F) main_arg4 (funext fun a => Nat.zero_mul _) _ f
theorem inp_wo (c : Dev nD) : (inp m).wo c = m ((c : Thread nD τ).loc main_arg4) := by unfold inp; exact read_wo (F := F) _

theorem final_out (c : Dev nD) : finalA m ρ c 3 = outAt (inp m) := by
  have e : (win0_3.blk t0_0).view.read (Elt F) (finalA m ρ c 3) = outAt (inp m) := by
    unfold finalA
    rw [show cfg0.N = t0_0.val + 1 from rfl, (dats m ρ 0 c).arrAt_succ (3 : Fin 4) t0_0, show (cfg0.win (3 : Fin 4)).flush t0_0 = true from by decide, if_pos rfl]
    exact View.read_write_univ _ _
  rw [← e]
  exact (Memref.read_access_unit_zero (Elt F) main_v1 (show (fun a => (win0_3.index t0_0) a * main_v1.ty.shape.size a) = fun _ => 0 from funext fun a => by fin_cases a <;> rfl) _ _).symm

/-- The run, with what it leaves told array by array. -/
theorem run_arrays : θ_run defs (onTc (τ := τ) (main (F := F))) (s₀ m ρ) (fun r =>
    (∀ c : Dev nD, r.2.mem ((c : Thread nD τ).loc main_v1) = outAt (inp m)
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 3).trans (final_out m ρ c), ((h.1 c).1 0).trans (final_in m ρ c 0 (by decide)),
    ((h.1 c).1 1).trans (final_in m ρ c 1 (by decide)), (h.1 c).2.1, (h.1 c).2.2, ((h.1 c).1 2).trans (final_in m ρ c 2 (by decide))⟩, h.2⟩) (run_main m ρ)

end Cert.KernelIdealProof
-- ==== Proof.Frames.lean ====
module
public import proofs.«01_k».proof.Defs
public import proofs.«01_k».proof.Proof.Gen.Kernel
public import proofs.«01_k».proof.Proof.Launch

/-! # The frames of the kernel, as printed and idealised: the one run at both readings of floats -/

@[expose] public section
noncomputable section
namespace Cert.KernelIdealProof
open Idealize.ShloMosaic Idealize.SL.Sem
variable {F : FTy → Type} [FloatOps F]

theorem frame_ideal : Cert.quiescent_KernelIdeal := fun m ρ _ =>
  (θ_run Cert.KernelIdeal.defs _ _).mono (fun _ h => ⟨fun c => (h.1 c).2, h.2⟩) (run_arrays (F := Ideal) m ρ)

/-- Both programs have one body. -/
theorem same_body : Cert.Kernel.cc0_body (F := F) = Cert.KernelIdeal.cc0_body (F := F) := rfl

theorem same_table : Cert.Kernel.defs₀ (F := F) = Cert.KernelIdeal.defs₀ (F := F) := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

theorem same_defs : Cert.Kernel.defs (F := F) = Cert.KernelIdeal.defs (F := F) :=
  congrArg (Pipeline.defs Cert.KernelIdeal.pcfgs) same_table

theorem frame_bits : Cert.quiescent_Kernel := fun m ρ _ => by
  rw [same_defs]
  exact (θ_run Cert.KernelIdeal.defs _ _).mono (fun _ h => ⟨fun c => (h.1 c).2, h.2⟩) (run_arrays (F := Bits) m ρ)
end Cert.KernelIdealProof
-- ==== Proof.Reference.lean ====
module
public import proofs.«01_k».proof.Defs
public import proofs.«01_k».proof.Proof.Gen.ReferenceIdeal.Run
public import Idealize.ShloMosaic.Lib.Quiescent

/-! # The reference's frame -/

@[expose] public section
noncomputable section
namespace Cert.ReferenceIdeal.Value
open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩) (run (F := Ideal) m ρ)

end Cert.ReferenceIdeal.Value
-- ==== Proof.Softmax.lean ====
module
public import Idealize.ShloMosaic.PureOps.Ideal.Laws

/-! # A softmax in two halves

Over the extended reals with the exponential that sends −∞ to 0, the weighted sums of a row taken in two halves, the first
half's sums carried to the new maximum by the factor `exp (m - m')`, are the sums taken at once. No finiteness is asked of the
scores or of the values: at an infinite maximum both sides' weights are 0. -/

@[expose] public section
noncomputable section
namespace Cert.Softmax
open Idealize.ShloMosaic

/-- A score no greater than the maximum: its weight is a real in [0, 1]. -/
theorem exp_sub_real {s m : EReal} (h : s ≤ m) : ∃ r : ℝ, 0 ≤ r ∧ Ideal.exp (s - m) = (r : EReal) := by
  induction m with
  | bot =>
    have : s = ⊥ := le_bot_iff.mp h
    subst this
    exact ⟨0, le_refl _, by rw [EReal.bot_sub, Ideal.exp_bot]; rfl⟩
  | top => exact ⟨0, le_refl _, by rw [EReal.sub_top, Ideal.exp_bot]; rfl⟩
  | coe b =>
    induction s with
    | bot => exact ⟨0, le_refl _, by rw [EReal.bot_sub, Ideal.exp_bot]; rfl⟩
    | top => exact absurd h (by simp)
    | coe a => exact ⟨Real.exp (a - b), (Real.exp_pos _).le, by rw [← EReal.coe_sub, Ideal.exp_coe]⟩

/-- Carrying a weight from one maximum to a greater one. -/
theorem exp_carry {s m m' : EReal} (h : s ≤ m) (h' : m ≤ m') :
    Ideal.exp (s - m) * Ideal.exp (m - m') = Ideal.exp (s - m') := by
  induction m' with
  | bot =>
    have : m = ⊥ := le_bot_iff.mp h'
    subst this
    have : s = ⊥ := le_bot_iff.mp h
    subst this
    rw [EReal.bot_sub, Ideal.exp_bot, zero_mul]
  | top => rw [EReal.sub_top, EReal.sub_top, Ideal.exp_bot, mul_zero]
  | coe b =>
    induction m with
    | bot =>
      have : s = ⊥ := le_bot_iff.mp h
      subst this
      rw [EReal.bot_sub, EReal.bot_sub, Ideal.exp_bot, mul_zero]
    | top => exact absurd h' (by simp)
    | coe a =>
      induction s with
      | bot => rw [EReal.bot_sub, EReal.bot_sub, Ideal.exp_bot, zero_mul]
      | top => exact absurd h (by simp)
      | coe c =>
        rw [← EReal.coe_sub, ← EReal.coe_sub, ← EReal.coe_sub, Ideal.exp_coe, Ideal.exp_coe, Ideal.exp_coe, ← EReal.coe_mul,
          ← Real.exp_add]
        congr 2
        ring

/-- A nonnegative real factor distributes over a sum. -/
theorem sum_mul_real {ι : Type} (t : Finset ι) (f : ι → EReal) {r : ℝ} (hr : 0 ≤ r) :
    (∑ j ∈ t, f j) * (r : EReal) = ∑ j ∈ t, f j * (r : EReal) := by
  classical
  induction t using Finset.induction_on with
  | empty => simp
  | insert a t ha ih =>
    rw [Finset.sum_insert ha, Finset.sum_insert ha, ← ih, mul_comm, mul_comm (f a), mul_comm (∑ j ∈ t, f j)]
    exact EReal.left_distrib_of_nonneg_of_ne_top (EReal.coe_nonneg.mpr hr) (EReal.coe_ne_top r) _ _

variable {n : ℕ} (s : Fin n → EReal)

/-- A row's maximum, −∞ of nothing. -/
def top : EReal := Finset.univ.fold max ⊥ s

theorem le_top (j : Fin n) : s j ≤ top s := by
  have := (Finset.le_fold_max (s := Finset.univ) (f := s) (b := ⊥) (s j)).mpr (Or.inr ⟨j, Finset.mem_univ j, le_refl _⟩)
  exact this

/-- A row's weighted sum, by its maximum. -/
def wsum (m : EReal) (v : Fin n → EReal) : EReal := ∑ j, Ideal.exp (s j - m) * v j

/-- A weighted sum carried to a greater maximum. -/
theorem wsum_carry (v : Fin n → EReal) {m' : EReal} (h : top s ≤ m') :
    wsum s (top s) v * Ideal.exp (top s - m') = wsum s m' v := by
  obtain ⟨r, hr, e⟩ := exp_sub_real h
  unfold wsum
  rw [e, sum_mul_real _ _ hr]
  refine Finset.sum_congr rfl fun j _ => ?_
  rw [mul_right_comm, ← e, exp_carry (le_top s j) h]

variable (k : ℕ) (S : Fin (n + k) → EReal)

/-- The row's maximum from its halves'. -/
theorem top_split : top S = max (top fun j : Fin n => S (Fin.castAdd k j)) (top fun j : Fin k => S (Fin.natAdd n j)) := by
  refine le_antisymm ?_ (max_le ?_ ?_)
  · refine (Finset.fold_max_le _).mpr ⟨bot_le, fun j _ => ?_⟩
    refine Fin.addCases (fun a => ?_) (fun b => ?_) j
    · exact le_max_of_le_left (le_top (fun j : Fin n => S (Fin.castAdd k j)) a)
    · exact le_max_of_le_right (le_top (fun j : Fin k => S (Fin.natAdd n j)) b)
  · exact (Finset.fold_max_le _).mpr ⟨bot_le, fun j _ => le_top S _⟩
  · exact (Finset.fold_max_le _).mpr ⟨bot_le, fun j _ => le_top S _⟩

/-- The two halves' weighted sums, the first carried, are the row's. -/
theorem wsum_split (V : Fin (n + k) → EReal) :
    wsum (fun j : Fin n => S (Fin.castAdd k j)) (top fun j : Fin n => S (Fin.castAdd k j)) (fun j => V (Fin.castAdd k j))
        * Ideal.exp ((top fun j : Fin n => S (Fin.castAdd k j)) - top S)
      + wsum (fun j : Fin k => S (Fin.natAdd n j)) (top S) (fun j => V (Fin.natAdd n j))
      = wsum S (top S) V := by
  rw [wsum_carry _ _ (by rw [top_split k S]; exact le_max_left _ _)]
  unfold wsum
  rw [Fin.sum_univ_add]

end Cert.Softmax
-- ==== Proof.Spec.lean ====
module
public import proofs.«01_k».proof.Proof.Softmax

/-! # The attention by coordinates

Cross attention of 256 heads of 128 lanes over 2048 rows of keys and values, and its output projection, as functions of the
arrays' coordinates. -/

@[expose] public section
noncomputable section
namespace Cert.Spec
open Idealize.ShloMosaic Cert.Softmax

/-- The scale both programs have: the value of the float word of 1/√128. -/
def scale : EReal := Ideal.ofBits .f32 0x3DB504F3#32

/-- The column of head `h`'s lane `d`. -/
def col (h : Fin 256) (d : Fin 128) : Fin 32768 := ⟨128 * h.val + d.val, by omega⟩

/-- The head of a column, and its lane. -/
def headOf (n : Fin 32768) : Fin 256 := ⟨n.val / 128, by omega⟩
def laneOf (n : Fin 32768) : Fin 128 := ⟨n.val % 128, by omega⟩

variable (X : Fin 512 → Fin 1024 → EReal) (W : Fin 1024 → Fin 32768 → EReal) (K V : Fin 2048 → Fin 256 → Fin 128 → EReal)
  (O : Fin 32768 → Fin 1024 → EReal)

/-- A query. -/
def query (i : Fin 512) (n : Fin 32768) : EReal := ∑ k : Fin 1024, X i k * W k n

/-- Query row `i`'s score against row `j` in head `h`. -/
def score (i : Fin 512) (h : Fin 256) (j : Fin 2048) : EReal := (∑ d : Fin 128, query X W i (col h d) * K j h d) * scale

/-- The softmax's average of the values. -/
def att (s v : Fin 2048 → EReal) : EReal := Ideal.div (wsum s (top s) v) (wsum s (top s) fun _ => 1)

/-- The attention's result at a row and a column. -/
def attn (i : Fin 512) (n : Fin 32768) : EReal := att (score X W K i (headOf n)) fun j => V j (headOf n) (laneOf n)

/-- The projected result. -/
def out (i : Fin 512) (j : Fin 1024) : EReal := ∑ n : Fin 32768, attn X W K V i n * O n j

end Cert.Spec
-- ==== Proof.HeadRead.lean ====
module
public import proofs.«01_k».proof.Proof.Content
public import proofs.«01_k».proof.Proof.Spec
public import Idealize.ShloMosaic.Lib.Pointwise

/-! # One head of the kernel at an index

The kernel's payloads read over the extended reals: the projections as sums, and one head as the softmax's average. -/

@[expose] public section
noncomputable section
namespace Cert.KernelIdealProof
open Cert.KernelIdeal Cert.KernelIdeal.Gen
open Idealize.ShloMosaic
open Cert.Softmax Cert.Spec

theorem pay1_at (g : Vec Ideal S512x1024 .bf16) (i : Fin 512) (j : Fin 1024) : k0_pay1 g (ix3 0 i j) = g (ix2 i j) := by
  pointwise [k0_pay1]

theorem pay2_at (x : Vec Ideal S1x512x1024 .f32) (w : Vec Ideal S1024x1024 .f32) (i : Fin 512) (n : Fin 1024) :
    k0_pay2 x w (ix2 i n) = ∑ k : Fin 1024, x (ix3 0 i k) * w (ix2 k n) := by
  pointwise [k0_pay2]

theorem pay14_at (a : Vec Ideal S512x1024 .bf16) (w : Vec Ideal S1024x1024 .f32) (i : Fin 512) (j : Fin 1024) :
    k0_pay14 a w (ix2 i j) = ∑ n : Fin 1024, a (ix2 i n) * w (ix2 n j) := by
  pointwise [k0_pay14]

/-- The scores. -/
def headS (qh : FVec Ideal S512x128 .f32) (kh : Vec Ideal S2048x1x128 .f32) : FVec Ideal S512x2048 .f32 :=
  mulf (matmul dot_S512x128_S2048x128_S512x2048_1_1_0_0_n_n none (truncf .bf16 qh bitsLt_bf16_f32)
    (truncf .bf16 (shapeCast S2048x128 kh shapeCasts_S2048x1x128_S2048x128) bitsLt_bf16_f32)
    (constant S512x2048 .f32 0x00000000#32)) (broadcast S512x2048 (Scalar.ofBits .f32 0x3DB504F3#32))

theorem headS_at (qh : FVec Ideal S512x128 .f32) (kh : Vec Ideal S2048x1x128 .f32) (i : Fin 512) (j : Fin 2048) :
    headS qh kh (ix2 i j) = (∑ d : Fin 128, qh (ix2 i d) * kh (ix3 j 0 d)) * scale := by
  unfold scale
  pointwise [headS]

/-- The maxima. -/
def headM (s : FVec Ideal S512x2048 .f32) : FVec Ideal S512 .f32 :=
  multiReduction .maximumf [1] S512 s 0xFF800000#32 reduces_S512x2048_S512 (.inl rfl) rfl

theorem headM_lift (s : FVec Ideal S512x2048 .f32) (j : S512.Idx) :
    headM s j = (Finset.univ : Finset (Fin (S512x2048.size 1))).fold max (FloatOps.ofBits .f32 0xFF800000#32) (s ∘ reduces_S512x2048_S512.lift j) :=
  Ideal.multiReduction_maximumf_single s 0xFF800000#32 reduces_S512x2048_S512 (.inl rfl) rfl j

theorem lift1 (i : Fin 512) (j : Fin 2048) : reduces_S512x2048_S512.lift (ix1 i) j = ix2 i j := by
  funext a
  fin_cases a <;> rfl

theorem bits_bot : (FloatOps.ofBits .f32 0xFF800000#32 : Ideal .f32) = (⊥ : EReal) := by
  show Ideal.ofBits FTy.f32 0xFF800000#32 = ⊥
  simp [Ideal.ofBits, Ideal.ieee]

theorem comp_lift1 (s : FVec Ideal S512x2048 .f32) (i : Fin 512) :
    (s ∘ reduces_S512x2048_S512.lift (ix1 i) : Fin 2048 → EReal) = fun j => s (ix2 i j) :=
  funext fun j => congrArg s (lift1 i j)

theorem headM_at (s : FVec Ideal S512x2048 .f32) (i : Fin 512) : headM s (ix1 i) = top fun j : Fin 2048 => s (ix2 i j) :=
  (headM_lift s _).trans (congrArg₂ (fun b f => (Finset.univ : Finset (Fin 2048)).fold max b f) bits_bot (comp_lift1 s i))

/-- The weights. -/
def headE (s : FVec Ideal S512x2048 .f32) (m : FVec Ideal S512 .f32) : FVec Ideal S512x2048 .f32 :=
  exp (subf s (broadcastTo S512x2048 (shapeCast S512x1 m shapeCasts_S512_S512x1) broadcasts_S512x1_S512x2048))

theorem headE_at (s : FVec Ideal S512x2048 .f32) (m : FVec Ideal S512 .f32) (i : Fin 512) (j : Fin 2048) :
    headE s m (ix2 i j) = Ideal.exp (s (ix2 i j) - m (ix1 i)) := by
  pointwise [headE]

/-- The sums of the weights. -/
def headL (p : FVec Ideal S512x2048 .f32) : FVec Ideal S512 .f32 :=
  multiReduction .add [1] S512 p 0x00000000#32 reduces_S512x2048_S512 (.inl rfl) rfl

theorem headL_at (p : FVec Ideal S512x2048 .f32) (i : Fin 512) : headL p (ix1 i) = ∑ j : Fin 2048, p (ix2 i j) := by
  pointwise [headL]

/-- The weighted sums of the values. -/
def headO (p : FVec Ideal S512x2048 .f32) (vh : Vec Ideal S2048x1x128 .f32) : FVec Ideal S512x128 .f32 :=
  matmul dot_S512x2048_S2048x128_S512x128_1_0_0_1_n_n none (truncf .bf16 p bitsLt_bf16_f32)
    (truncf .bf16 (shapeCast S2048x128 vh shapeCasts_S2048x1x128_S2048x128) bitsLt_bf16_f32) (constant S512x128 .f32 0x00000000#32)

theorem headO_at (p : FVec Ideal S512x2048 .f32) (vh : Vec Ideal S2048x1x128 .f32) (i : Fin 512) (d : Fin 128) :
    headO p vh (ix2 i d) = ∑ j : Fin 2048, p (ix2 i j) * vh (ix3 j 0 d) := by
  pointwise [headO]

/-- The quotient. -/
def headD (o : FVec Ideal S512x128 .f32) (l : FVec Ideal S512 .f32) : FVec Ideal S512x128 .bf16 :=
  shapeCast S512x128 (truncf .bf16 (divf o (broadcastTo S512x128 (shapeCast S512x1 l shapeCasts_S512_S512x1) broadcasts_S512x1_S512x128))
    bitsLt_bf16_f32) shapeCasts_S512x128_S512x128

theorem headD_at (o : FVec Ideal S512x128 .f32) (l : FVec Ideal S512 .f32) (i : Fin 512) (d : Fin 128) :
    headD o l (ix2 i d) = Ideal.div (o (ix2 i d)) (l (ix1 i)) := by
  pointwise [headD]

theorem headP_steps (qh : FVec Ideal S512x128 .f32) (kh vh : Vec Ideal S2048x1x128 .f32) :
    headP qh kh vh = headD (headO (headE (headS qh kh) (headM (headS qh kh))) vh) (headL (headE (headS qh kh) (headM (headS qh kh)))) := by
  unfold headP headD headO headE headL headM headS
  rfl

/-- One head at a row and a lane. -/
theorem headP_at (qh : FVec Ideal S512x128 .f32) (kh vh : Vec Ideal S2048x1x128 .f32) (i : Fin 512) (d : Fin 128) :
    headP qh kh vh (ix2 i d)
      = att (fun j => (∑ d : Fin 128, qh (ix2 i d) * kh (ix3 j 0 d)) * scale) (fun j => vh (ix3 j 0 d)) := by
  rw [headP_steps, headD_at, headO_at, headL_at]
  unfold att wsum
  simp only [headE_at, headM_at, headS_at, mul_one]

end Cert.KernelIdealProof
-- ==== Proof.Butterfly.lean ====
module
public import proofs.«01_k».proof.Proof.Content
public import Idealize.ShloMosaic.PureOps.Ideal.Laws

/-! # The sum over the devices

Over the extended reals, what a device holds after five rounds of the reduction is the sum of what all devices held. -/

@[expose] public section
noncomputable section
namespace Cert.KernelIdealProof
open Cert.KernelIdeal Cert.KernelIdeal.Gen
open Idealize.ShloMosaic

/-- The devices whose parts device `c`'s sums have met before round `k`: those agreeing with it from bit `k` on. -/
def met (k : ℕ) (c : Dev nD) : Finset (Dev nD) := Finset.univ.filter fun c' => c'.val / 2 ^ k = c.val / 2 ^ k

theorem met_zero : ∀ c : Dev nD, met 0 c = {c} := by decide +kernel
theorem met_succ : ∀ (k : Fin 5) (c : Dev nD), met (k + 1) c = met k c ∪ met k (peer k c) := by decide +kernel
theorem met_disjoint : ∀ (k : Fin 5) (c : Dev nD), Disjoint (met k c) (met k (peer k c)) := by decide +kernel
theorem met_five : ∀ c : Dev nD, met 5 c = Finset.univ := by decide +kernel

variable (I : Inp Ideal)

theorem A_met (r j : ℕ) : ∀ k : ℕ, k ≤ 5 → ∀ c : Dev nD, (A I k c r j : EReal) = ∑ c' ∈ met k c, (A I 0 c' r j : EReal)
  | 0, _, c => by rw [met_zero, Finset.sum_singleton]
  | k + 1, h, c => by
    have e := A_succ I ⟨k, h⟩ c r j
    have s := met_succ ⟨k, h⟩ c
    simp only at e s
    rw [s, Finset.sum_union (met_disjoint ⟨k, h⟩ c), ← A_met r j k (by omega) c, ← A_met r j k (by omega) (peer ⟨k, h⟩ c)]
    exact e

/-- The gathered result is the sum of all devices' products. -/
theorem gat_sum (r j : ℕ) : (gat I r j : EReal) = ∑ c : Dev nD, (A I 0 c r j : EReal) := by
  unfold gat
  rw [A_met I r j 5 (le_refl _), met_five]

end Cert.KernelIdealProof
-- ==== Proof.KernelValue.lean ====
module
public import proofs.«01_k».proof.Proof.HeadRead
public import proofs.«01_k».proof.Proof.Butterfly

/-! # The kernel's value

What every device writes out, at an index: the sum over the devices of each device's product of its heads' averages with its
rows of the output matrix. -/

@[expose] public section
noncomputable section
namespace Cert.KernelIdealProof
open Cert.KernelIdeal Cert.KernelIdeal.Gen
open Idealize.ShloMosaic
open Cert.Softmax Cert.Spec

/-- Head `8 c + h` of all: device `c`'s head `h`. -/
def headAll (c : Dev nD) (h : Fin 8) : Fin 256 := ⟨8 * c.val + h.val, by have : c.val < 32 := c.isLt; omega⟩

theorem off1_eq : ∀ c : Dev nD, k0_off1 c = ![0, 0, 8 * c.val, 0] := by decide +kernel

theorem casts_kv : S1x2048x8x128.ShapeCasts S2048x8x128 := by decide

theorem kvRect (c : Dev nD) (j : Fin 2048) (h : Fin 8) (d : Fin 128) :
    (Rect.unit (s := S1x2048x256x128) (k0_off1 c) S1x2048x8x128.size (k0_off1_inb c)).emb (ix4 0 j h d) = ix4 0 j (headAll c h) d := by
  funext a
  refine Fin.ext ?_
  rw [Rect.emb_apply, Rect.off_unit, Rect.stride_unit, Nat.one_mul]
  refine (congrArg (fun o : Fin 4 → ℕ => o a + (ix4 (0 : Fin 1) j h d a).val) (off1_eq c)).trans ?_
  fin_cases a
  · rfl
  · exact Nat.zero_add _
  · rfl
  · exact Nat.zero_add _

theorem kv_at (f : S1x2048x8x128.Idx → EReal) (j : Fin 2048) (h : Fin 8) (d : Fin 128) :
    shapeCast S2048x8x128 f casts_kv (ix3 j h d) = f (ix4 0 j h d) := by
  pointwise

variable (I : Inp Ideal)

theorem kbuf_at (c : Dev nD) (j : Fin 2048) (h : Fin 8) (d : Fin 128) :
    kbuf I c (ix3 j h d) = I.k c (ix4 0 j (headAll c h) d) := by
  unfold kbuf
  exact (kv_at (fun i => I.k c ((Rect.unit (s := S1x2048x256x128) (k0_off1 c) S1x2048x8x128.size (k0_off1_inb c)).emb i)) j h d).trans
    (congrArg (I.k c) (kvRect c j h d))

theorem vbuf_at (c : Dev nD) (j : Fin 2048) (h : Fin 8) (d : Fin 128) :
    vbuf I c (ix3 j h d) = I.v c (ix4 0 j (headAll c h) d) := by
  unfold vbuf
  exact (kv_at (fun i => I.v c ((Rect.unit (s := S1x2048x256x128) (k0_off1 c) S1x2048x8x128.size (k0_off1_inb c)).emb i)) j h d).trans
    (congrArg (I.v c) (kvRect c j h d))

theorem krows_at (b : S2048x8x128.Idx → Ideal .f32) (h : Fin 8) (j : Fin 2048) (d : Fin 128) :
    krows h b (ix3 j 0 d) = b (ix3 j h d) := by
  unfold krows
  refine congrArg b (funext fun a => Fin.ext ?_)
  rw [Rect.emb_apply, Rect.off_unit, Rect.stride_unit, Nat.one_mul]
  fin_cases a
  · exact Nat.zero_add _
  · exact Nat.add_zero _
  · exact Nat.zero_add _

theorem qcols_at (h : Fin 8) (q : FVec Ideal S512x1024 .f32) (i : Fin 512) (d : Fin 128) :
    qcols h q (ix2 i d) = q (ix2 i ⟨128 * h.val + d.val, by omega⟩) := by
  unfold qcols
  unfold extractStridedSlice
  refine congrArg q (funext fun a => Fin.ext ?_)
  fin_cases a
  · exact Nat.zero_add _
  · rfl

/-- A device's arrays by coordinates. -/
def xI (c : Dev nD) (i : Fin 512) (k : Fin 1024) : EReal := I.x c (ix3 0 i k)
def wqI (c : Dev nD) (k n : Fin 1024) : EReal := I.wq c (ix2 k n)
def kI (c : Dev nD) (j : Fin 2048) (h : Fin 256) (d : Fin 128) : EReal := I.k c (ix4 0 j h d)
def vI (c : Dev nD) (j : Fin 2048) (h : Fin 256) (d : Fin 128) : EReal := I.v c (ix4 0 j h d)
def woI (c : Dev nD) (n j : Fin 1024) : EReal := I.wo c (ix2 n j)

/-- Device `c`'s average for a row and one of its columns. -/
def aI (c : Dev nD) (i : Fin 512) (n : Fin 1024) : EReal :=
  att (fun j => (∑ d : Fin 128, (∑ k : Fin 1024, xI I c i k * wqI I c k ⟨128 * (n.val / 128) + d.val, by omega⟩)
      * kI I c j (headAll c ⟨n.val / 128, by omega⟩) d) * scale)
    (fun j => vI I c j (headAll c ⟨n.val / 128, by omega⟩) ⟨n.val % 128, by omega⟩)

theorem attnB_at (c : Dev nD) (i : Fin 512) (n : Fin 1024) : attnB I c (ix2 i n) = aI I c i n := by
  have e1 : idx128 i.val n.val = ix2 i ⟨n.val % 128, by omega⟩ := by
    funext a
    fin_cases a
    · exact Fin.ext (Nat.mod_eq_of_lt i.isLt)
    · rfl
  have e2 : (⟨n.val / 128 % 8, Nat.mod_lt _ (by decide)⟩ : Fin 8) = ⟨n.val / 128, by omega⟩ :=
    Fin.ext (Nat.mod_eq_of_lt (by omega))
  show headOut I ⟨n.val / 128 % 8, Nat.mod_lt _ (by decide)⟩ c (idx128 i.val n.val) = _
  rw [e1, e2]
  unfold headOut
  rw [headP_at]
  simp only [qcols_at, krows_at, kbuf_at, vbuf_at, pay2_at]
  rfl

/-- What every device writes out. -/
theorem outAt_at (i : Fin 512) (j : Fin 1024) :
    outAt I (ix3 0 i j) = ∑ c : Fin 32, ∑ n : Fin 1024, aI I c i n * woI I c n j := by
  have e : ∀ c : Dev nD, A I 0 c i.val j.val = ∑ n : Fin 1024, aI I c i n * woI I c n j := by
    intro c
    have e1 : idx512 i.val j.val = ix2 i j := idx512_val (ix2 i j)
    show k0_pay14 (attnB I c) (I.wo c) (idx512 i.val j.val) = _
    rw [e1, pay14_at]
    simp only [attnB_at]
    rfl
  unfold outAt
  rw [pay1_at]
  show gat I i.val j.val = _
  exact (gat_sum I i.val j.val).trans (Finset.sum_congr rfl fun c _ => e c)

end Cert.KernelIdealProof
-- ==== Proof.RefSteps.lean ====
module
public import proofs.«01_k».proof.Proof.Reference

/-! # The reference's steps

The reference's result as a composition of named steps over its five arrays. -/

@[expose] public section
noncomputable section
namespace Cert.ReferenceIdeal.Value
open Cert.ReferenceIdeal Cert.ReferenceIdeal.Gen Idealize.ShloMosaic Idealize.ShloMosaic.TcCoe

/-- The queries, by row, head and lane. -/
def qR (x : FVec Ideal S1x512x1024 .f32) (wq : FVec Ideal S1024x32768 .f32) : FVec Ideal S1x512x256x128 .f32 :=
  shapeCast _ (Host.dotGeneral dot_S1x512x1024_S1024x32768_S1x512x32768_2_0_01_1_n_n none x wq)
    shapeCasts_S1x512x32768_S1x512x256x128

/-- The first half of the rows of the keys or values. -/
def loR (k : FVec Ideal S1x2048x256x128 .f32) : FVec Ideal S1x1024x256x128 .f32 :=
  extractStridedSlice S1x1024x256x128 ![0, 0, 0, 0] k slices_S1x2048x256x128_S1x1024x256x128_0_0_0_0

/-- The second half. -/
def hiR (k : FVec Ideal S1x2048x256x128 .f32) : FVec Ideal S1x1024x256x128 .f32 :=
  extractStridedSlice S1x1024x256x128 ![0, 1024, 0, 0] k slices_S1x2048x256x128_S1x1024x256x128_0_1024_0_0

/-- The scores of one half. -/
def scR (q : FVec Ideal S1x512x256x128 .f32) (k : FVec Ideal S1x1024x256x128 .f32) : FVec Ideal S1x256x512x1024 .f32 :=
  mulf (Host.dotGeneral dot_S1x512x256x128_S1x1024x256x128_S1x256x512x1024_3_3_1_1_02_02 none q k)
    (broadcastInDim S1x256x512x1024 ![] bcast_S_S1x256x512x1024 (constant S_ .f32 0x3DB504F3#32))

/-- The running maximum after one half, from the running maximum before it. -/
def mxR (m0 : FVec Ideal S1x256x512x1 .f32) (s : FVec Ideal S1x256x512x1024 .f32) : FVec Ideal S1x256x512x1 .f32 :=
  maximumf m0 (broadcastInDim S1x256x512x1 ![0, 1, 2] bcast_S1x256x512_S1x256x512x1_0_1_2
    (Host.reduce FloatOps.maximumf s (constant S_ .f32 0xFF800000#32) reducesTo_S1x256x512x1024_S1x256x512_d3 h_S_))

/-- The factor that carries earlier sums to the new maximum. -/
def alR (m0 m1 : FVec Ideal S1x256x512x1 .f32) : FVec Ideal S1x256x512x1 .f32 := Host.exp (subf m0 m1)

/-- The weights of one half. -/
def pR (s : FVec Ideal S1x256x512x1024 .f32) (m1 : FVec Ideal S1x256x512x1 .f32) : FVec Ideal S1x256x512x1024 .f32 :=
  Host.exp (subf s (broadcastInDim S1x256x512x1024 ![0, 1, 2, 3] bcast_S1x256x512x1_S1x256x512x1024_0_1_2_3 m1))

/-- The running sum of the weights. -/
def lR (l0 a : FVec Ideal S1x256x512x1 .f32) (p : FVec Ideal S1x256x512x1024 .f32) : FVec Ideal S1x256x512x1 .f32 :=
  addf (mulf l0 a) (broadcastInDim S1x256x512x1 ![0, 1, 2] bcast_S1x256x512_S1x256x512x1_0_1_2
    (Host.reduceAdd p (constant S_ .f32 0x00000000#32) reducesTo_S1x256x512x1024_S1x256x512_d3 h_S_))

/-- A per-row number carried to every lane. -/
def bcR (a : FVec Ideal S1x256x512x1 .f32) : FVec Ideal S1x512x256x128 .f32 :=
  broadcastInDim S1x512x256x128 ![0, 1, 2, 3] bcast_S1x512x256x1_S1x512x256x128_0_1_2_3
    (transpose S1x512x256x1 [0, 2, 1, 3] a transposes_S1x256x512x1_S1x512x256x1_0_2_1_3)

/-- The running weighted sum of the values. -/
def oR (o0 : FVec Ideal S1x512x256x128 .f32) (a : FVec Ideal S1x256x512x1 .f32) (v : FVec Ideal S1x1024x256x128 .f32)
    (p : FVec Ideal S1x256x512x1024 .f32) : FVec Ideal S1x512x256x128 .f32 :=
  addf (mulf o0 (bcR a)) (transpose S1x512x256x128 [0, 3, 1, 2]
    (Host.dotGeneral dot_S1x1024x256x128_S1x256x512x1024_S1x256x128x512_1_3_3_2_02_01 none v p)
    transposes_S1x256x128x512_S1x512x256x128_0_3_1_2)

/-- The starting values: no maximum, and zero sums. -/
def m0R : FVec Ideal S1x256x512x1 .f32 := broadcastInDim S1x256x512x1 ![] bcast_S_S1x256x512x1 (constant S_ .f32 0xFF800000#32)
def l0R : FVec Ideal S1x256x512x1 .f32 := broadcastInDim S1x256x512x1 ![] bcast_S_S1x256x512x1 (constant S_ .f32 0x00000000#32)
def o0R : FVec Ideal S1x512x256x128 .f32 := broadcastInDim S1x512x256x128 ![] bcast_S_S1x512x256x128 (constant S_ .f32 0x00000000#32)

/-- The attention from the two halves' scores and values. -/
def atR (sa sb : FVec Ideal S1x256x512x1024 .f32) (va vb : FVec Ideal S1x1024x256x128 .f32) : FVec Ideal S1x512x256x128 .f32 :=
  Host.divf
    (oR (oR o0R (alR m0R (mxR m0R sa)) va (pR sa (mxR m0R sa))) (alR (mxR m0R sa) (mxR (mxR m0R sa) sb)) vb
      (pR sb (mxR (mxR m0R sa) sb)))
    (bcR (lR (lR l0R (alR m0R (mxR m0R sa)) (pR sa (mxR m0R sa))) (alR (mxR m0R sa) (mxR (mxR m0R sa) sb))
      (pR sb (mxR (mxR m0R sa) sb))))

/-- The output projection. -/
def prR (a : FVec Ideal S1x512x256x128 .f32) (wo : FVec Ideal S32768x1024 .f32) : FVec Ideal S1x512x1024 .f32 :=
  Host.dotGeneral dot_S1x512x32768_S32768x1024_S1x512x1024_2_0_01_1_n_n none
    (shapeCast _ a shapeCasts_S1x512x256x128_S1x512x32768) wo

/-- The whole result. -/
def resR (x : FVec Ideal S1x512x1024 .f32) (wq : FVec Ideal S1024x32768 .f32) (k v : FVec Ideal S1x2048x256x128 .f32)
    (wo : FVec Ideal S32768x1024 .f32) : FVec Ideal S1x512x1024 .f32 :=
  prR (atR (scR (qR x wq) (loR k)) (scR (qR x wq) (hiR k)) (loR v) (hiR v)) wo

theorem res_eq (m : (ℓ : Loc nD τ sig) → Buf (Elt Ideal) ℓ) (c : Dev nD) :
    res_main_v55 m c = resR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v55
  rfl

end Cert.ReferenceIdeal.Value
-- ==== Proof.RefRead.lean ====
module
public import proofs.«01_k».proof.Proof.RefSteps
public import Idealize.ShloMosaic.Lib.Pointwise

/-! # The reference's steps at an index

Each step of the reference read at one index. -/

@[expose] public section
noncomputable section
namespace Cert.ReferenceIdeal.Value
open Cert.ReferenceIdeal Cert.ReferenceIdeal.Gen Idealize.ShloMosaic Idealize.ShloMosaic.TcCoe

theorem ofBits_bot : Ideal.ofBits FTy.f32 0xFF800000#32 = ⊥ := by
  simp [Ideal.ofBits, Ideal.ieee]

theorem qR_at (x : FVec Ideal S1x512x1024 .f32) (wq : FVec Ideal S1024x32768 .f32) (i : Fin 512) (h : Fin 256) (d : Fin 128) :
    qR x wq (ix4 0 i h d) = ∑ k : Fin 1024, x (ix3 0 i k) * wq (ix2 k ⟨128 * h.val + d.val, by omega⟩) := by
  pointwise [qR]
  exact Finset.sum_congr rfl fun k _ => by rw [show (⟨h.val * 128 + d.val, by omega⟩ : Fin 32768) = ⟨128 * h.val + d.val, by omega⟩ from Fin.ext (by simp only; omega)]

theorem loR_at (k : FVec Ideal S1x2048x256x128 .f32) (j : Fin 1024) (h : Fin 256) (d : Fin 128) :
    loR k (ix4 0 j h d) = k (ix4 0 ⟨j.val, by omega⟩ h d) := by
  pointwise [loR]

theorem hiR_at (k : FVec Ideal S1x2048x256x128 .f32) (j : Fin 1024) (h : Fin 256) (d : Fin 128) :
    hiR k (ix4 0 j h d) = k (ix4 0 ⟨1024 + j.val, by omega⟩ h d) := by
  pointwise [hiR]

theorem scR_at (q : FVec Ideal S1x512x256x128 .f32) (k : FVec Ideal S1x1024x256x128 .f32) (h : Fin 256) (i : Fin 512) (j : Fin 1024) :
    scR q k (ix4 0 h i j) = (∑ d : Fin 128, q (ix4 0 i h d) * k (ix4 0 j h d)) * Ideal.ofBits .f32 0x3DB504F3#32 := by
  pointwise [scR]

theorem init_bot : (constant S_ .f32 0xFF800000#32 : FVec Ideal S_ .f32) (Shape.Idx.first h_S_) = ⊥ := ofBits_bot

theorem fold_maximumf {n : ℕ} (b : EReal) (f : Fin n → EReal) :
    (Finset.univ : Finset (Fin n)).fold (FloatOps.maximumf (F := Ideal) (φ := .f32)) b f = Finset.univ.fold max b f := rfl

theorem reduces3 : S1x256x512x1024.Reduces [3] S1x256x512 := by decide

theorem lift3 (h : Fin 256) (i : Fin 512) (j : Fin 1024) : reduces3.lift (ix3 0 h i) j = ix4 0 h i j := by
  funext a
  fin_cases a <;> rfl

theorem rowMax_lift (s : FVec Ideal S1x256x512x1024 .f32) (init : FVec Ideal S_ .f32) (j : S1x256x512.Idx) :
    Host.reduce FloatOps.maximumf s init reducesTo_S1x256x512x1024_S1x256x512_d3 h_S_ j
      = (Finset.univ : Finset (Fin (S1x256x512x1024.size 3))).fold FloatOps.maximumf (init (Shape.Idx.first h_S_))
          (s ∘ reduces3.lift j) :=
  Host.reduce_eq_fold_single FloatOps.maximumf s init reducesTo_S1x256x512x1024_S1x256x512_d3 reduces3 h_S_ j

theorem comp_lift (s : FVec Ideal S1x256x512x1024 .f32) (h : Fin 256) (i : Fin 512) :
    (s ∘ reduces3.lift (ix3 0 h i) : Fin 1024 → EReal) = fun j => s (ix4 0 h i j) :=
  funext fun j => congrArg s (lift3 h i j)

/-- A row's maximum. -/
theorem rowMax (s : FVec Ideal S1x256x512x1024 .f32) (h : Fin 256) (i : Fin 512) :
    Host.reduce FloatOps.maximumf s (constant S_ .f32 0xFF800000#32) reducesTo_S1x256x512x1024_S1x256x512_d3 h_S_ (ix3 0 h i)
      = (Finset.univ : Finset (Fin 1024)).fold max ⊥ (fun j => s (ix4 0 h i j)) :=
  (rowMax_lift s _ _).trans ((fold_maximumf (n := 1024) _ _).trans
    (congrArg₂ (fun b f => (Finset.univ : Finset (Fin 1024)).fold max b f) init_bot (comp_lift s h i)))

theorem mx_of (m0 : FVec Ideal S1x256x512x1 .f32) (r : FVec Ideal S1x256x512 .f32) (h : Fin 256) (i : Fin 512) :
    maximumf m0 (broadcastInDim S1x256x512x1 ![0, 1, 2] bcast_S1x256x512_S1x256x512x1_0_1_2 r) (ix4 0 h i 0)
      = max (m0 (ix4 0 h i 0)) (r (ix3 0 h i)) := by
  pointwise

theorem mxR_at (m0 : FVec Ideal S1x256x512x1 .f32) (s : FVec Ideal S1x256x512x1024 .f32) (h : Fin 256) (i : Fin 512) :
    mxR m0 s (ix4 0 h i 0) = max (m0 (ix4 0 h i 0)) (Finset.univ.fold max ⊥ fun j : Fin 1024 => s (ix4 0 h i j)) := by
  unfold mxR
  exact (mx_of m0 _ h i).trans (congrArg (max (m0 (ix4 0 h i 0))) (rowMax s h i))

theorem lR_at (l0 a : FVec Ideal S1x256x512x1 .f32) (p : FVec Ideal S1x256x512x1024 .f32) (h : Fin 256) (i : Fin 512) :
    lR l0 a p (ix4 0 h i 0) = l0 (ix4 0 h i 0) * a (ix4 0 h i 0) + ∑ j : Fin 1024, p (ix4 0 h i j) := by
  pointwise [lR]

theorem pR_at (s : FVec Ideal S1x256x512x1024 .f32) (m1 : FVec Ideal S1x256x512x1 .f32) (h : Fin 256) (i : Fin 512) (j : Fin 1024) :
    pR s m1 (ix4 0 h i j) = Ideal.exp (s (ix4 0 h i j) - m1 (ix4 0 h i 0)) := by
  pointwise [pR]

theorem oR_at (o0 : FVec Ideal S1x512x256x128 .f32) (a : FVec Ideal S1x256x512x1 .f32) (v : FVec Ideal S1x1024x256x128 .f32)
    (p : FVec Ideal S1x256x512x1024 .f32) (i : Fin 512) (h : Fin 256) (d : Fin 128) :
    oR o0 a v p (ix4 0 i h d) = o0 (ix4 0 i h d) * a (ix4 0 h i 0) + ∑ j : Fin 1024, v (ix4 0 j h d) * p (ix4 0 h i j) := by
  pointwise [oR, bcR]

theorem prR_at (a : FVec Ideal S1x512x256x128 .f32) (wo : FVec Ideal S32768x1024 .f32) (i : Fin 512) (j : Fin 1024) :
    prR a wo (ix3 0 i j) = ∑ n : Fin 32768, a (ix4 0 i ⟨n.val / 128, by omega⟩ ⟨n.val % 128, by omega⟩) * wo (ix2 n j) := by
  pointwise [prR]

end Cert.ReferenceIdeal.Value
-- ==== Proof.RefValue.lean ====
module
public import proofs.«01_k».proof.Proof.RefRead
public import proofs.«01_k».proof.Proof.Spec

/-! # The reference's value

The reference's result at an index is the projected attention of its arrays' coordinates. -/

@[expose] public section
noncomputable section
namespace Cert.ReferenceIdeal.Value
open Cert.ReferenceIdeal Cert.ReferenceIdeal.Gen Idealize.ShloMosaic Idealize.ShloMosaic.TcCoe
open Cert.Softmax Cert.Spec

theorem m0R_at (h : Fin 256) (i : Fin 512) : m0R (ix4 0 h i 0) = (⊥ : EReal) := ofBits_bot
theorem ofBits_zero : Ideal.ofBits FTy.f32 0x00000000#32 = 0 := by simp [Ideal.ofBits, Ideal.ieee]
theorem l0R_at (h : Fin 256) (i : Fin 512) : l0R (ix4 0 h i 0) = (0 : EReal) := ofBits_zero
theorem o0R_at (h : Fin 256) (i : Fin 512) (d : Fin 128) : o0R (ix4 0 i h d) = (0 : EReal) := ofBits_zero

theorem alR_at (m0 m1 : FVec Ideal S1x256x512x1 .f32) (h : Fin 256) (i : Fin 512) :
    alR m0 m1 (ix4 0 h i 0) = Ideal.exp (m0 (ix4 0 h i 0) - m1 (ix4 0 h i 0)) := rfl

theorem bcR_at (a : FVec Ideal S1x256x512x1 .f32) (i : Fin 512) (h : Fin 256) (d : Fin 128) :
    bcR a (ix4 0 i h d) = a (ix4 0 h i 0) := by
  pointwise [bcR]

theorem divR_at (o l : FVec Ideal S1x512x256x128 .f32) (i : Fin 512) (h : Fin 256) (d : Fin 128) :
    Host.divf o l (ix4 0 i h d) = Ideal.div (o (ix4 0 i h d)) (l (ix4 0 i h d)) := rfl

/-- The two halves' online softmax is the softmax of the whole row. -/
theorem atR_at (sa sb : FVec Ideal S1x256x512x1024 .f32) (va vb : FVec Ideal S1x1024x256x128 .f32) (i : Fin 512) (h : Fin 256)
    (d : Fin 128) (S V : Fin (1024 + 1024) → EReal)
    (hsa : ∀ j : Fin 1024, sa (ix4 0 h i j) = S (Fin.castAdd 1024 j)) (hsb : ∀ j : Fin 1024, sb (ix4 0 h i j) = S (Fin.natAdd 1024 j))
    (hva : ∀ j : Fin 1024, va (ix4 0 j h d) = V (Fin.castAdd 1024 j)) (hvb : ∀ j : Fin 1024, vb (ix4 0 j h d) = V (Fin.natAdd 1024 j)) :
    atR sa sb va vb (ix4 0 i h d) = att S V := by
  have e1 : mxR m0R sa (ix4 0 h i 0) = top fun j : Fin 1024 => S (Fin.castAdd 1024 j) := by
    rw [mxR_at, m0R_at, max_eq_right bot_le]
    exact congrArg (Finset.fold max ⊥ · _) (funext hsa)
  have e2 : mxR (mxR m0R sa) sb (ix4 0 h i 0) = top S := by
    rw [mxR_at, e1, top_split]
    exact congrArg (fun f => max _ (Finset.fold max ⊥ f _)) (funext hsb)
  unfold atR
  rw [divR_at, bcR_at, oR_at, oR_at, lR_at, lR_at, alR_at, alR_at, e1, e2, o0R_at, l0R_at, zero_mul, zero_add, zero_add]
  unfold att
  rw [← wsum_split 1024 S V, ← wsum_split 1024 S fun _ => 1]
  unfold wsum
  simp only [pR_at, e1, e2, hsa, hsb, hva, hvb, mul_one, mul_comm (V _)]

theorem resR_at (x : FVec Ideal S1x512x1024 .f32) (wq : FVec Ideal S1024x32768 .f32) (k v : FVec Ideal S1x2048x256x128 .f32)
    (wo : FVec Ideal S32768x1024 .f32) (i : Fin 512) (j : Fin 1024) :
    resR x wq k v wo (ix3 0 i j)
      = out (fun i k => x (ix3 0 i k)) (fun k n => wq (ix2 k n)) (fun j h d => k (ix4 0 j h d)) (fun j h d => v (ix4 0 j h d))
          (fun n j => wo (ix2 n j)) i j := by
  unfold resR
  rw [prR_at]
  unfold out
  refine Finset.sum_congr rfl fun n _ => congrArg (· * _) ?_
  refine atR_at _ _ _ _ i (headOf n) (laneOf n)
    (score (fun i k => x (ix3 0 i k)) (fun k n => wq (ix2 k n)) (fun j h d => k (ix4 0 j h d)) i (headOf n))
    (fun j => v (ix4 0 j (headOf n) (laneOf n))) (fun j => ?_) (fun j => ?_) (fun j => ?_) (fun j => ?_)
  · rw [scR_at]; simp only [qR_at, loR_at]; rfl
  · rw [scR_at]; simp only [qR_at, hiR_at]; rfl
  · rw [loR_at]; rfl
  · rw [hiR_at]; rfl

end Cert.ReferenceIdeal.Value
-- ==== Proof.Algebraic.lean ====
module
public import proofs.«01_k».proof.Proof.Launch
public import proofs.«01_k».proof.Proof.KernelValue
public import proofs.«01_k».proof.Proof.RefValue

/-! # The kernel's value is the reference's

Device `c` holds columns `1024 c …` of the query matrix and the same rows of the output matrix, so its columns are heads
`8 c … 8 c + 7`; the sum over the devices of sums over 1024 columns is the reference's sum over all 32768. -/

@[expose] public section
noncomputable section
namespace Cert.AlgebraicProof
open Idealize.ShloMosaic Idealize.SL.Sem Idealize.ShloMosaic.TcCoe
open Cert.Softmax Cert.Spec Cert.KernelIdealProof

/-- Device `c`'s column `n` among all. -/
def at32 (c : Fin 32) (n : Fin 1024) : Fin 32768 := ⟨1024 * c.val + n.val, by omega⟩

theorem sum_devices (f : Fin 32768 → EReal) : ∑ n, f n = ∑ c : Fin 32, ∑ n : Fin 1024, f (at32 c n) := by
  rw [← Finset.sum_product', Finset.univ_product_univ, ← Equiv.sum_comp (finProdFinEquiv (m := 32) (n := 1024)) f]
  refine Finset.sum_congr rfl fun p _ => congrArg f (Fin.ext ?_)
  show p.2.val + 1024 * p.1.val = 1024 * p.1.val + p.2.val
  omega

theorem block_cols (c : Fin 32) (w : (⟨2, ![1024, 32768]⟩ : Shape).Idx → EReal) (k n : Fin 1024) :
    Layout.block ⟨2, ![1024, 1024]⟩ ⟨2, ![1024, 32768]⟩ 1 32 c w (by decide) (ix2 k n) = w (ix2 k (at32 c n)) := by
  rw [Layout.block_apply]
  refine congrArg w (funext fun a => Fin.ext ?_)
  rw [Layout.Tiles.idx_val]
  fin_cases a
  · rfl
  · exact congrArg (· + n.val) (Nat.mul_comm _ _)

theorem block_rows (c : Fin 32) (w : (⟨2, ![32768, 1024]⟩ : Shape).Idx → EReal) (n j : Fin 1024) :
    Layout.block ⟨2, ![1024, 1024]⟩ ⟨2, ![32768, 1024]⟩ 0 32 c w (by decide) (ix2 n j) = w (ix2 (at32 c n) j) := by
  rw [Layout.block_apply]
  refine congrArg w (funext fun a => Fin.ext ?_)
  rw [Layout.Tiles.idx_val]
  fin_cases a
  · exact congrArg (· + n.val) (Nat.mul_comm _ _)
  · rfl

theorem head_at (c : Fin 32) (n : Fin 1024) : headOf (at32 c n) = headAll c ⟨n.val / 128, by omega⟩ :=
  Fin.ext (by simp only [headOf, at32, headAll]; omega)

theorem lane_at (c : Fin 32) (n : Fin 1024) : laneOf (at32 c n) = ⟨n.val % 128, by omega⟩ :=
  Fin.ext (by simp only [laneOf, at32]; omega)

theorem col_at (c : Fin 32) (n : Fin 1024) (d : Fin 128) :
    col (headAll c ⟨n.val / 128, by omega⟩) d = at32 c ⟨128 * (n.val / 128) + d.val, by omega⟩ :=
  Fin.ext (by simp only [col, at32, headAll]; omega)

/-- A device's averages are the attention's at its columns, and the sum over the devices is the projection. -/
theorem devices_eq (I : Inp Ideal) (X : Fin 512 → Fin 1024 → EReal) (W : Fin 1024 → Fin 32768 → EReal)
    (K V : Fin 2048 → Fin 256 → Fin 128 → EReal) (O : Fin 32768 → Fin 1024 → EReal)
    (hx : ∀ c i k, xI I c i k = X i k) (hw : ∀ (c : Fin 32) k n, wqI I c k n = W k (at32 c n)) (hk : ∀ c j h d, kI I c j h d = K j h d)
    (hv : ∀ c j h d, vI I c j h d = V j h d) (ho : ∀ (c : Fin 32) n j, woI I c n j = O (at32 c n) j) (i : Fin 512) (j : Fin 1024) :
    ∑ c : Fin 32, ∑ n : Fin 1024, aI I c i n * woI I c n j = out X W K V O i j := by
  unfold out
  rw [sum_devices]
  refine Finset.sum_congr rfl fun c _ => Finset.sum_congr rfl fun n _ => ?_
  rw [ho]
  refine congrArg (· * _) ?_
  unfold aI attn
  rw [head_at, lane_at]
  simp only [hx, hw, hk, hv]
  refine congrArg (att · _) (funext fun j => ?_)
  unfold score query
  simp only [col_at]

/-- The two programs' results at the same arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) :
    outAt (inp m) = Cert.ReferenceIdeal.Value.res_main_v55 m' 0 := by
  rw [Cert.ReferenceIdeal.Value.res_eq]
  refine funext fun (p : (⟨3, ![1, 512, 1024]⟩ : Shape).Idx) => ?_
  have ep : p = ix3 0 (p 1) (p 2) := by
    funext a
    fin_cases a
    · exact Subsingleton.elim (α := Fin 1) _ _
    · rfl
    · rfl
  rw [ep]
  refine (outAt_at (inp m) (p 1) (p 2)).trans ?_
  refine Eq.trans ?_ (Cert.ReferenceIdeal.Value.resR_at _ _ _ _ _ (p 1) (p 2)).symm
  refine devices_eq (inp m) _ _ _ _ _ (fun c i k => ?_) (fun c k n => ?_) (fun c j h' d => ?_) (fun c j h' d => ?_) (fun c n j => ?_) _ _
  · unfold xI
    rw [inp_x]
    exact congrFun (h c).1 _
  · unfold wqI
    rw [inp_wq]
    exact (congrFun (h c).2.1 _).trans (block_cols c _ k n)
  · exact congrFun (h c).2.2.1 _
  · exact congrFun (h c).2.2.2.1 _
  · unfold woI
    rw [inp_wo]
    exact (congrFun (h c).2.2.2.2 _).trans (block_rows c _ n j)

/-- On equal arguments the kernel and the reference end with equal results, over the extended reals. -/
theorem algebraic : Cert.algebraic_KernelIdeal_ReferenceIdeal := fun m g m' g' _ h =>
  ⟨Cert.ReferenceIdeal.Value.res_main_v55 m' 0,
    (θ_run Cert.KernelIdeal.defs _ _).mono
      (fun r hr c => ⟨((hr.1 c).1).trans (value_eq m m' h), (hr.1 c).2⟩) (run_arrays (F := Ideal) m g),
    (θ_run Cert.ReferenceIdeal.defs _ _).mono (fun r hr => hr 0) (Cert.ReferenceIdeal.Value.run (F := Ideal) m' g')⟩

end Cert.AlgebraicProof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Reference
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelIdealProof.frame_bits, Cert.KernelIdealProof.frame_ideal, Cert.ReferenceIdeal.Value.frame_reference, trivial,
  Cert.AlgebraicProof.algebraic⟩

end Cert.Proof

end
